-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Init (m : (ℓ : Loc Cert.Init.nD Cert.Init.τ Cert.Init.sig) → Buf (Elt Bits) ℓ) : Prop :=
  True

def Pre_InitIdeal (m : (ℓ : Loc Cert.InitIdeal.nD Cert.InitIdeal.τ Cert.InitIdeal.sig) → Buf (Elt Ideal) ℓ) : Prop :=
  True

def Pre_InitRefIdeal (m : (ℓ : Loc Cert.InitRefIdeal.nD Cert.InitRefIdeal.τ Cert.InitRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16)
      ∧ r.2.mem ((c.tc : Thread Cert.Mixer.nD Cert.Mixer.τ).loc Cert.Mixer.main_arg17) = m ((c.tc : Thread Cert.Mixer.nD Cert.Mixer.τ).loc Cert.Mixer.main_arg17))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16)
      ∧ r.2.mem ((c.tc : Thread Cert.MixerRefIdeal.nD Cert.MixerRefIdeal.τ).loc Cert.MixerRefIdeal.main_arg17) = m ((c.tc : Thread Cert.MixerRefIdeal.nD Cert.MixerRefIdeal.τ).loc Cert.MixerRefIdeal.main_arg17))
      ∧ r.2.sem = fun _ => 0)

def quiescent_Init [hInit : Cert.Init.Facts] : Prop :=
  ∀ (m : (ℓ : Loc Cert.Init.nD Cert.Init.τ Cert.Init.sig) → Buf (Elt Bits) ℓ) (g : Dev Cert.Init.nD → PrngReg), Pre_Init m →
    θ_run (Cert.Init.defs (F := Bits)) (onTc (τ := Cert.Init.τ) (Cert.Init.main (F := Bits))) ⟨m, fun _ => 0, g⟩ (fun r => (∀ c : Dev Cert.Init.nD,
      r.2.mem ((c.tc : Thread Cert.Init.nD Cert.Init.τ).loc Cert.Init.main_arg0) = m ((c.tc : Thread Cert.Init.nD Cert.Init.τ).loc Cert.Init.main_arg0)
      ∧ r.2.mem ((c.tc : Thread Cert.Init.nD Cert.Init.τ).loc Cert.Init.main_arg1) = m ((c.tc : Thread Cert.Init.nD Cert.Init.τ).loc Cert.Init.main_arg1)
      ∧ r.2.mem ((c.tc : Thread Cert.Init.nD Cert.Init.τ).loc Cert.Init.main_arg2) = m ((c.tc : Thread Cert.Init.nD Cert.Init.τ).loc Cert.Init.main_arg2)
      ∧ r.2.mem ((c.tc : Thread Cert.Init.nD Cert.Init.τ).loc Cert.Init.main_arg3) = m ((c.tc : Thread Cert.Init.nD Cert.Init.τ).loc Cert.Init.main_arg3)
      ∧ r.2.mem ((c.tc : Thread Cert.Init.nD Cert.Init.τ).loc Cert.Init.main_arg4) = m ((c.tc : Thread Cert.Init.nD Cert.Init.τ).loc Cert.Init.main_arg4)
      ∧ r.2.mem ((c.tc : Thread Cert.Init.nD Cert.Init.τ).loc Cert.Init.main_arg5) = m ((c.tc : Thread Cert.Init.nD Cert.Init.τ).loc Cert.Init.main_arg5)
      ∧ r.2.mem ((c.tc : Thread Cert.Init.nD Cert.Init.τ).loc Cert.Init.main_arg6) = m ((c.tc : Thread Cert.Init.nD Cert.Init.τ).loc Cert.Init.main_arg6)
      ∧ r.2.mem ((c.tc : Thread Cert.Init.nD Cert.Init.τ).loc Cert.Init.main_arg7) = m ((c.tc : Thread Cert.Init.nD Cert.Init.τ).loc Cert.Init.main_arg7)
      ∧ r.2.mem ((c.tc : Thread Cert.Init.nD Cert.Init.τ).loc Cert.Init.main_arg8) = m ((c.tc : Thread Cert.Init.nD Cert.Init.τ).loc Cert.Init.main_arg8))
      ∧ r.2.sem = fun _ => 0)

def quiescent_InitIdeal [hInitIdeal : Cert.InitIdeal.Facts] : Prop :=
  ∀ (m : (ℓ : Loc Cert.InitIdeal.nD Cert.InitIdeal.τ Cert.InitIdeal.sig) → Buf (Elt Ideal) ℓ) (g : Dev Cert.InitIdeal.nD → PrngReg), Pre_InitIdeal m →
    θ_run (Cert.InitIdeal.defs (F := Ideal)) (onTc (τ := Cert.InitIdeal.τ) (Cert.InitIdeal.main (F := Ideal))) ⟨m, fun _ => 0, g⟩ (fun r => (∀ c : Dev Cert.InitIdeal.nD,
      r.2.mem ((c.tc : Thread Cert.InitIdeal.nD Cert.InitIdeal.τ).loc Cert.InitIdeal.main_arg0) = m ((c.tc : Thread Cert.InitIdeal.nD Cert.InitIdeal.τ).loc Cert.InitIdeal.main_arg0)
      ∧ r.2.mem ((c.tc : Thread Cert.InitIdeal.nD Cert.InitIdeal.τ).loc Cert.InitIdeal.main_arg1) = m ((c.tc : Thread Cert.InitIdeal.nD Cert.InitIdeal.τ).loc Cert.InitIdeal.main_arg1)
      ∧ r.2.mem ((c.tc : Thread Cert.InitIdeal.nD Cert.InitIdeal.τ).loc Cert.InitIdeal.main_arg2) = m ((c.tc : Thread Cert.InitIdeal.nD Cert.InitIdeal.τ).loc Cert.InitIdeal.main_arg2)
      ∧ r.2.mem ((c.tc : Thread Cert.InitIdeal.nD Cert.InitIdeal.τ).loc Cert.InitIdeal.main_arg3) = m ((c.tc : Thread Cert.InitIdeal.nD Cert.InitIdeal.τ).loc Cert.InitIdeal.main_arg3)
      ∧ r.2.mem ((c.tc : Thread Cert.InitIdeal.nD Cert.InitIdeal.τ).loc Cert.InitIdeal.main_arg4) = m ((c.tc : Thread Cert.InitIdeal.nD Cert.InitIdeal.τ).loc Cert.InitIdeal.main_arg4)
      ∧ r.2.mem ((c.tc : Thread Cert.InitIdeal.nD Cert.InitIdeal.τ).loc Cert.InitIdeal.main_arg5) = m ((c.tc : Thread Cert.InitIdeal.nD Cert.InitIdeal.τ).loc Cert.InitIdeal.main_arg5)
      ∧ r.2.mem ((c.tc : Thread Cert.InitIdeal.nD Cert.InitIdeal.τ).loc Cert.InitIdeal.main_arg6) = m ((c.tc : Thread Cert.InitIdeal.nD Cert.InitIdeal.τ).loc Cert.InitIdeal.main_arg6)
      ∧ r.2.mem ((c.tc : Thread Cert.InitIdeal.nD Cert.InitIdeal.τ).loc Cert.InitIdeal.main_arg7) = m ((c.tc : Thread Cert.InitIdeal.nD Cert.InitIdeal.τ).loc Cert.InitIdeal.main_arg7)
      ∧ r.2.mem ((c.tc : Thread Cert.InitIdeal.nD Cert.InitIdeal.τ).loc Cert.InitIdeal.main_arg8) = m ((c.tc : Thread Cert.InitIdeal.nD Cert.InitIdeal.τ).loc Cert.InitIdeal.main_arg8))
      ∧ r.2.sem = fun _ => 0)

def quiescent_InitRefIdeal [hInitRefIdeal : Cert.InitRefIdeal.Facts] : Prop :=
  ∀ (m : (ℓ : Loc Cert.InitRefIdeal.nD Cert.InitRefIdeal.τ Cert.InitRefIdeal.sig) → Buf (Elt Ideal) ℓ) (g : Dev Cert.InitRefIdeal.nD → PrngReg), Pre_InitRefIdeal m →
    θ_run (Cert.InitRefIdeal.defs (F := Ideal)) (onTc (τ := Cert.InitRefIdeal.τ) (Cert.InitRefIdeal.main (F := Ideal))) ⟨m, fun _ => 0, g⟩ (fun r => (∀ c : Dev Cert.InitRefIdeal.nD,
      r.2.mem ((c.tc : Thread Cert.InitRefIdeal.nD Cert.InitRefIdeal.τ).loc Cert.InitRefIdeal.main_arg0) = m ((c.tc : Thread Cert.InitRefIdeal.nD Cert.InitRefIdeal.τ).loc Cert.InitRefIdeal.main_arg0)
      ∧ r.2.mem ((c.tc : Thread Cert.InitRefIdeal.nD Cert.InitRefIdeal.τ).loc Cert.InitRefIdeal.main_arg1) = m ((c.tc : Thread Cert.InitRefIdeal.nD Cert.InitRefIdeal.τ).loc Cert.InitRefIdeal.main_arg1)
      ∧ r.2.mem ((c.tc : Thread Cert.InitRefIdeal.nD Cert.InitRefIdeal.τ).loc Cert.InitRefIdeal.main_arg2) = m ((c.tc : Thread Cert.InitRefIdeal.nD Cert.InitRefIdeal.τ).loc Cert.InitRefIdeal.main_arg2)
      ∧ r.2.mem ((c.tc : Thread Cert.InitRefIdeal.nD Cert.InitRefIdeal.τ).loc Cert.InitRefIdeal.main_arg3) = m ((c.tc : Thread Cert.InitRefIdeal.nD Cert.InitRefIdeal.τ).loc Cert.InitRefIdeal.main_arg3)
      ∧ r.2.mem ((c.tc : Thread Cert.InitRefIdeal.nD Cert.InitRefIdeal.τ).loc Cert.InitRefIdeal.main_arg4) = m ((c.tc : Thread Cert.InitRefIdeal.nD Cert.InitRefIdeal.τ).loc Cert.InitRefIdeal.main_arg4)
      ∧ r.2.mem ((c.tc : Thread Cert.InitRefIdeal.nD Cert.InitRefIdeal.τ).loc Cert.InitRefIdeal.main_arg5) = m ((c.tc : Thread Cert.InitRefIdeal.nD Cert.InitRefIdeal.τ).loc Cert.InitRefIdeal.main_arg5)
      ∧ r.2.mem ((c.tc : Thread Cert.InitRefIdeal.nD Cert.InitRefIdeal.τ).loc Cert.InitRefIdeal.main_arg6) = m ((c.tc : Thread Cert.InitRefIdeal.nD Cert.InitRefIdeal.τ).loc Cert.InitRefIdeal.main_arg6)
      ∧ r.2.mem ((c.tc : Thread Cert.InitRefIdeal.nD Cert.InitRefIdeal.τ).loc Cert.InitRefIdeal.main_arg7) = m ((c.tc : Thread Cert.InitRefIdeal.nD Cert.InitRefIdeal.τ).loc Cert.InitRefIdeal.main_arg7)
      ∧ r.2.mem ((c.tc : Thread Cert.InitRefIdeal.nD Cert.InitRefIdeal.τ).loc Cert.InitRefIdeal.main_arg8) = m ((c.tc : Thread Cert.InitRefIdeal.nD Cert.InitRefIdeal.τ).loc Cert.InitRefIdeal.main_arg8))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v28_0)) (v1 : (c : Dev Cert.ProjIdeal.nD) → Buf (Elt Ideal) ((c.tc : Thread Cert.ProjIdeal.nD Cert.ProjIdeal.τ).loc Cert.ProjIdeal.main_v28_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v28_0) = v0 c
          ∧ r.2.mem ((c.tc : Thread Cert.ProjIdeal.nD Cert.ProjIdeal.τ).loc Cert.ProjIdeal.main_v28_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v33) = v0 c
          ∧ r.2.mem ((c.tc : Thread Cert.ProjRefIdeal.nD Cert.ProjRefIdeal.τ).loc Cert.ProjRefIdeal.main_v32) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mixer_MixerIdeal : Prop :=
  True

def preserves_Init_InitIdeal : Prop :=
  True

def algebraic_InitIdeal_InitRefIdeal [hInitIdeal : Cert.InitIdeal.Facts] [hInitRefIdeal : Cert.InitRefIdeal.Facts] : Prop :=
  ∀ (m : (ℓ : Loc Cert.InitIdeal.nD Cert.InitIdeal.τ Cert.InitIdeal.sig) → Buf (Elt Ideal) ℓ) (g : Dev Cert.InitIdeal.nD → PrngReg)
    (m' : (ℓ : Loc Cert.InitRefIdeal.nD Cert.InitRefIdeal.τ Cert.InitRefIdeal.sig) → Buf (Elt Ideal) ℓ) (g' : Dev Cert.InitRefIdeal.nD → PrngReg), Pre_InitIdeal m →
    (∀ c : Dev Cert.InitIdeal.nD,
      m' ((c.tc : Thread Cert.InitRefIdeal.nD Cert.InitRefIdeal.τ).loc Cert.InitRefIdeal.main_arg0) = m ((c.tc : Thread Cert.InitIdeal.nD Cert.InitIdeal.τ).loc Cert.InitIdeal.main_arg0)
      ∧ m' ((c.tc : Thread Cert.InitRefIdeal.nD Cert.InitRefIdeal.τ).loc Cert.InitRefIdeal.main_arg1) = m ((c.tc : Thread Cert.InitIdeal.nD Cert.InitIdeal.τ).loc Cert.InitIdeal.main_arg1)
      ∧ m' ((c.tc : Thread Cert.InitRefIdeal.nD Cert.InitRefIdeal.τ).loc Cert.InitRefIdeal.main_arg2) = m ((c.tc : Thread Cert.InitIdeal.nD Cert.InitIdeal.τ).loc Cert.InitIdeal.main_arg2)
      ∧ m' ((c.tc : Thread Cert.InitRefIdeal.nD Cert.InitRefIdeal.τ).loc Cert.InitRefIdeal.main_arg3) = m ((c.tc : Thread Cert.InitIdeal.nD Cert.InitIdeal.τ).loc Cert.InitIdeal.main_arg3)
      ∧ m' ((c.tc : Thread Cert.InitRefIdeal.nD Cert.InitRefIdeal.τ).loc Cert.InitRefIdeal.main_arg4) = m ((c.tc : Thread Cert.InitIdeal.nD Cert.InitIdeal.τ).loc Cert.InitIdeal.main_arg4)
      ∧ m' ((c.tc : Thread Cert.InitRefIdeal.nD Cert.InitRefIdeal.τ).loc Cert.InitRefIdeal.main_arg5) = m ((c.tc : Thread Cert.InitIdeal.nD Cert.InitIdeal.τ).loc Cert.InitIdeal.main_arg5)
      ∧ m' ((c.tc : Thread Cert.InitRefIdeal.nD Cert.InitRefIdeal.τ).loc Cert.InitRefIdeal.main_arg6) = m ((c.tc : Thread Cert.InitIdeal.nD Cert.InitIdeal.τ).loc Cert.InitIdeal.main_arg6)
      ∧ m' ((c.tc : Thread Cert.InitRefIdeal.nD Cert.InitRefIdeal.τ).loc Cert.InitRefIdeal.main_arg7) = m ((c.tc : Thread Cert.InitIdeal.nD Cert.InitIdeal.τ).loc Cert.InitIdeal.main_arg7)
      ∧ m' ((c.tc : Thread Cert.InitRefIdeal.nD Cert.InitRefIdeal.τ).loc Cert.InitRefIdeal.main_arg8) = m ((c.tc : Thread Cert.InitIdeal.nD Cert.InitIdeal.τ).loc Cert.InitIdeal.main_arg8)) →
    ∃ (v0 : (c : Dev Cert.InitIdeal.nD) → Buf (Elt Ideal) ((c.tc : Thread Cert.InitIdeal.nD Cert.InitIdeal.τ).loc Cert.InitIdeal.main_v0_0)) (v1 : (c : Dev Cert.InitIdeal.nD) → Buf (Elt Ideal) ((c.tc : Thread Cert.InitIdeal.nD Cert.InitIdeal.τ).loc Cert.InitIdeal.main_v0_1)) (v2 : (c : Dev Cert.InitIdeal.nD) → Buf (Elt Ideal) ((c.tc : Thread Cert.InitIdeal.nD Cert.InitIdeal.τ).loc Cert.InitIdeal.main_v0_2)) (v3 : (c : Dev Cert.InitIdeal.nD) → Buf (Elt Ideal) ((c.tc : Thread Cert.InitIdeal.nD Cert.InitIdeal.τ).loc Cert.InitIdeal.main_v0_3)) (v4 : (c : Dev Cert.InitIdeal.nD) → Buf (Elt Ideal) ((c.tc : Thread Cert.InitIdeal.nD Cert.InitIdeal.τ).loc Cert.InitIdeal.main_v0_4)),
      θ_run (Cert.InitIdeal.defs (F := Ideal)) (onTc (τ := Cert.InitIdeal.τ) (Cert.InitIdeal.main (F := Ideal))) ⟨m, fun _ => 0, g⟩ (fun r => ∀ c : Dev Cert.InitIdeal.nD,
          r.2.mem ((c.tc : Thread Cert.InitIdeal.nD Cert.InitIdeal.τ).loc Cert.InitIdeal.main_v0_0) = v0 c
          ∧ r.2.mem ((c.tc : Thread Cert.InitIdeal.nD Cert.InitIdeal.τ).loc Cert.InitIdeal.main_v0_1) = v1 c
          ∧ r.2.mem ((c.tc : Thread Cert.InitIdeal.nD Cert.InitIdeal.τ).loc Cert.InitIdeal.main_v0_2) = v2 c
          ∧ r.2.mem ((c.tc : Thread Cert.InitIdeal.nD Cert.InitIdeal.τ).loc Cert.InitIdeal.main_v0_3) = v3 c
          ∧ r.2.mem ((c.tc : Thread Cert.InitIdeal.nD Cert.InitIdeal.τ).loc Cert.InitIdeal.main_v0_4) = v4 c
          ∧ r.2.mem ((c.tc : Thread Cert.InitIdeal.nD Cert.InitIdeal.τ).loc Cert.InitIdeal.main_arg0) = m ((c.tc : Thread Cert.InitIdeal.nD Cert.InitIdeal.τ).loc Cert.InitIdeal.main_arg0)
          ∧ r.2.mem ((c.tc : Thread Cert.InitIdeal.nD Cert.InitIdeal.τ).loc Cert.InitIdeal.main_arg1) = m ((c.tc : Thread Cert.InitIdeal.nD Cert.InitIdeal.τ).loc Cert.InitIdeal.main_arg1)
          ∧ r.2.mem ((c.tc : Thread Cert.InitIdeal.nD Cert.InitIdeal.τ).loc Cert.InitIdeal.main_arg2) = m ((c.tc : Thread Cert.InitIdeal.nD Cert.InitIdeal.τ).loc Cert.InitIdeal.main_arg2)
          ∧ r.2.mem ((c.tc : Thread Cert.InitIdeal.nD Cert.InitIdeal.τ).loc Cert.InitIdeal.main_arg3) = m ((c.tc : Thread Cert.InitIdeal.nD Cert.InitIdeal.τ).loc Cert.InitIdeal.main_arg3)
          ∧ r.2.mem ((c.tc : Thread Cert.InitIdeal.nD Cert.InitIdeal.τ).loc Cert.InitIdeal.main_arg4) = m ((c.tc : Thread Cert.InitIdeal.nD Cert.InitIdeal.τ).loc Cert.InitIdeal.main_arg4)
          ∧ r.2.mem ((c.tc : Thread Cert.InitIdeal.nD Cert.InitIdeal.τ).loc Cert.InitIdeal.main_arg5) = m ((c.tc : Thread Cert.InitIdeal.nD Cert.InitIdeal.τ).loc Cert.InitIdeal.main_arg5)
          ∧ r.2.mem ((c.tc : Thread Cert.InitIdeal.nD Cert.InitIdeal.τ).loc Cert.InitIdeal.main_arg6) = m ((c.tc : Thread Cert.InitIdeal.nD Cert.InitIdeal.τ).loc Cert.InitIdeal.main_arg6)
          ∧ r.2.mem ((c.tc : Thread Cert.InitIdeal.nD Cert.InitIdeal.τ).loc Cert.InitIdeal.main_arg7) = m ((c.tc : Thread Cert.InitIdeal.nD Cert.InitIdeal.τ).loc Cert.InitIdeal.main_arg7)
          ∧ r.2.mem ((c.tc : Thread Cert.InitIdeal.nD Cert.InitIdeal.τ).loc Cert.InitIdeal.main_arg8) = m ((c.tc : Thread Cert.InitIdeal.nD Cert.InitIdeal.τ).loc Cert.InitIdeal.main_arg8))
      ∧ θ_run (Cert.InitRefIdeal.defs (F := Ideal)) (onTc (τ := Cert.InitRefIdeal.τ) (Cert.InitRefIdeal.main (F := Ideal))) ⟨m', fun _ => 0, g'⟩ (fun r => ∀ c : Dev Cert.InitRefIdeal.nD,
          r.2.mem ((c.tc : Thread Cert.InitRefIdeal.nD Cert.InitRefIdeal.τ).loc Cert.InitRefIdeal.main_v154) = v0 c
          ∧ r.2.mem ((c.tc : Thread Cert.InitRefIdeal.nD Cert.InitRefIdeal.τ).loc Cert.InitRefIdeal.main_v155) = v1 c
          ∧ r.2.mem ((c.tc : Thread Cert.InitRefIdeal.nD Cert.InitRefIdeal.τ).loc Cert.InitRefIdeal.main_v158) = v2 c
          ∧ r.2.mem ((c.tc : Thread Cert.InitRefIdeal.nD Cert.InitRefIdeal.τ).loc Cert.InitRefIdeal.main_v160) = v3 c
          ∧ r.2.mem ((c.tc : Thread Cert.InitRefIdeal.nD Cert.InitRefIdeal.τ).loc Cert.InitRefIdeal.main_v161) = v4 c
          ∧ r.2.mem ((c.tc : Thread Cert.InitRefIdeal.nD Cert.InitRefIdeal.τ).loc Cert.InitRefIdeal.main_arg0) = m' ((c.tc : Thread Cert.InitRefIdeal.nD Cert.InitRefIdeal.τ).loc Cert.InitRefIdeal.main_arg0)
          ∧ r.2.mem ((c.tc : Thread Cert.InitRefIdeal.nD Cert.InitRefIdeal.τ).loc Cert.InitRefIdeal.main_arg1) = m' ((c.tc : Thread Cert.InitRefIdeal.nD Cert.InitRefIdeal.τ).loc Cert.InitRefIdeal.main_arg1)
          ∧ r.2.mem ((c.tc : Thread Cert.InitRefIdeal.nD Cert.InitRefIdeal.τ).loc Cert.InitRefIdeal.main_arg2) = m' ((c.tc : Thread Cert.InitRefIdeal.nD Cert.InitRefIdeal.τ).loc Cert.InitRefIdeal.main_arg2)
          ∧ r.2.mem ((c.tc : Thread Cert.InitRefIdeal.nD Cert.InitRefIdeal.τ).loc Cert.InitRefIdeal.main_arg3) = m' ((c.tc : Thread Cert.InitRefIdeal.nD Cert.InitRefIdeal.τ).loc Cert.InitRefIdeal.main_arg3)
          ∧ r.2.mem ((c.tc : Thread Cert.InitRefIdeal.nD Cert.InitRefIdeal.τ).loc Cert.InitRefIdeal.main_arg4) = m' ((c.tc : Thread Cert.InitRefIdeal.nD Cert.InitRefIdeal.τ).loc Cert.InitRefIdeal.main_arg4)
          ∧ r.2.mem ((c.tc : Thread Cert.InitRefIdeal.nD Cert.InitRefIdeal.τ).loc Cert.InitRefIdeal.main_arg5) = m' ((c.tc : Thread Cert.InitRefIdeal.nD Cert.InitRefIdeal.τ).loc Cert.InitRefIdeal.main_arg5)
          ∧ r.2.mem ((c.tc : Thread Cert.InitRefIdeal.nD Cert.InitRefIdeal.τ).loc Cert.InitRefIdeal.main_arg6) = m' ((c.tc : Thread Cert.InitRefIdeal.nD Cert.InitRefIdeal.τ).loc Cert.InitRefIdeal.main_arg6)
          ∧ r.2.mem ((c.tc : Thread Cert.InitRefIdeal.nD Cert.InitRefIdeal.τ).loc Cert.InitRefIdeal.main_arg7) = m' ((c.tc : Thread Cert.InitRefIdeal.nD Cert.InitRefIdeal.τ).loc Cert.InitRefIdeal.main_arg7)
          ∧ r.2.mem ((c.tc : Thread Cert.InitRefIdeal.nD Cert.InitRefIdeal.τ).loc Cert.InitRefIdeal.main_arg8) = m' ((c.tc : Thread Cert.InitRefIdeal.nD Cert.InitRefIdeal.τ).loc Cert.InitRefIdeal.main_arg8))

def Claim : Prop :=
  ∃ (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMixer : Cert.Mixer.Facts) (hMixerIdeal : Cert.MixerIdeal.Facts) (hMixerRefIdeal : Cert.MixerRefIdeal.Facts) (hInit : Cert.Init.Facts) (hInitIdeal : Cert.InitIdeal.Facts) (hInitRefIdeal : Cert.InitRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Mixer (hMixer := hMixer)
    ∧ quiescent_MixerIdeal (hMixerIdeal := hMixerIdeal)
    ∧ quiescent_MixerRefIdeal (hMixerRefIdeal := hMixerRefIdeal)
    ∧ quiescent_Init (hInit := hInit)
    ∧ quiescent_InitIdeal (hInitIdeal := hInitIdeal)
    ∧ quiescent_InitRefIdeal (hInitRefIdeal := hInitRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Mixer_MixerIdeal
    ∧ preserves_Init_InitIdeal
    ∧ algebraic_InitIdeal_InitRefIdeal (hInitIdeal := hInitIdeal) (hInitRefIdeal := hInitRefIdeal)
-- ==== Ffn.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S2816x256 : Shape := ⟨2, ![2816, 256]⟩

abbrev nBuf : Space → Nat
  | .hbm => 13
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024x5632, .f32⟩
  | .hbm, ⟨9, _⟩ => ⟨S1024x5632, .bf16⟩
  | .hbm, ⟨10, _⟩ => ⟨S2816x1024, .f32⟩
  | .hbm, ⟨11, _⟩ => ⟨S2816x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x5632, .f32⟩
  | .hbm, ⟨23, _⟩ => ⟨S16384x5632, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S2816x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Proj.lean ====
abbrev S8x2048x1024 : Shape := ⟨3, ![8, 2048, 1024]⟩
abbrev S1x1024 : Shape := ⟨2, ![1, 1024]⟩
abbrev S1x1024x8216 : Shape := ⟨3, ![1, 1024, 8216]⟩
abbrev S1024x8216 : Shape := ⟨2, ![1024, 8216]⟩
abbrev S1024x512 : Shape := ⟨2, ![1024, 512]⟩
abbrev S1024x1024 : Shape := ⟨2, ![1024, 1024]⟩
abbrev S1024x4 : Shape := ⟨2, ![1024, 4]⟩
abbrev S1024x2048 : Shape := ⟨2, ![1024, 2048]⟩
abbrev S1024x16 : Shape := ⟨2, ![1024, 16]⟩
abbrev S_ : Shape := ⟨0, ![]⟩
abbrev S1024x104 : Shape := ⟨2, ![1024, 104]⟩
abbrev S1024x8320 : Shape := ⟨2, ![1024, 8320]⟩
abbrev S1024 : Shape := ⟨1, ![1024]⟩
abbrev S16384x1024 : Shape := ⟨2, ![16384, 1024]⟩
abbrev S16384x8192 : Shape := ⟨2, ![16384, 8192]⟩
abbrev S16384x128 : Shape := ⟨2, ![16384, 128]⟩
abbrev S512x1024 : Shape := ⟨2, ![512, 1024]⟩
abbrev S512x8192 : Shape := ⟨2, ![512, 8192]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1024x128 : Shape := ⟨2, ![1024, 128]⟩

abbrev nBuf : Space → Nat
  | .hbm => 34
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x8216, .f32⟩
  | .hbm, ⟨3, _⟩ => ⟨S1024x8216, .f32⟩
  | .hbm, ⟨4, _⟩ => ⟨S1024x512, .f32⟩
  | .hbm, ⟨5, _⟩ => ⟨S1024x8216, .f32⟩
  | .hbm, ⟨6, _⟩ => ⟨S1024x512, .f32⟩
  | .hbm, ⟨7, _⟩ => ⟨S1024x8216, .f32⟩
  | .hbm, ⟨8, _⟩ => ⟨S1024x1024, .f32⟩
  | .hbm, ⟨9, _⟩ => ⟨S1024x8216, .f32⟩
  | .hbm, ⟨10, _⟩ => ⟨S1024x1024, .f32⟩
  | .hbm, ⟨11, _⟩ => ⟨S1024x8216, .f32⟩
  | .hbm, ⟨12, _⟩ => ⟨S1024x4, .f32⟩
  | .hbm, ⟨13, _⟩ => ⟨S1024x8216, .f32⟩
  | .hbm, ⟨14, _⟩ => ⟨S1024x4, .f32⟩
  | .hbm, ⟨15, _⟩ => ⟨S1024x8216, .f32⟩
  | .hbm, ⟨16, _⟩ => ⟨S1024x1024, .f32⟩
  | .hbm, ⟨17, _⟩ => ⟨S1024x8216, .f32⟩
  | .hbm, ⟨18, _⟩ => ⟨S1024x2048, .f32⟩
  | .hbm, ⟨19, _⟩ => ⟨S1024x8216, .f32⟩
  | .hbm, ⟨20, _⟩ => ⟨S1024x16, .f32⟩
  | .hbm, ⟨21, _⟩ => ⟨S1024x8216, .f32⟩
  | .hbm, ⟨22, _⟩ => ⟨S1024x1024, .f32⟩
  | .hbm, ⟨23, _⟩ => ⟨S1024x8216, .f32⟩
  | .hbm, ⟨24, _⟩ => ⟨S1024x1024, .f32⟩
  | .hbm, ⟨25, _⟩ => ⟨S_, .f32⟩
  | .hbm, ⟨26, _⟩ => ⟨S1024x104, .f32⟩
  | .hbm, ⟨27, _⟩ => ⟨S1024x8320, .f32⟩
  | .hbm, ⟨28, _⟩ => ⟨S1024x8320, .bf16⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x8192, .bf16⟩
  | .hbm, ⟨33, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8320, .bf16⟩
  | .local _ .vmem, ⟨4, _⟩ => ⟨S512x8192, .bf16⟩
  | .local _ .vmem, ⟨5, _⟩ => ⟨S512x8192, .bf16⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28_0 : Ref sig .tc := ⟨.hbm, 32, rfl⟩
abbrev main_v28_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S8x2048x1024 : Shape := ⟨3, ![8, 2048, 1024]⟩
abbrev S1x1024 : Shape := ⟨2, ![1, 1024]⟩
abbrev S1x1024x8216 : Shape := ⟨3, ![1, 1024, 8216]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x8216 : Shape := ⟨2, ![1024, 8216]⟩
abbrev S16384x8216 : Shape := ⟨2, ![16384, 8216]⟩
abbrev S16384x512 : Shape := ⟨2, ![16384, 512]⟩
abbrev S16384x4 : Shape := ⟨2, ![16384, 4]⟩
abbrev S16384x2048 : Shape := ⟨2, ![16384, 2048]⟩
abbrev S16384x16 : Shape := ⟨2, ![16384, 16]⟩
abbrev S16384x8192 : Shape := ⟨2, ![16384, 8192]⟩
abbrev S16384x104 : Shape := ⟨2, ![16384, 104]⟩
abbrev S16384x128 : Shape := ⟨2, ![16384, 128]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x8216, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x8216, .f32⟩
  | .hbm, ⟨22, _⟩ => ⟨S16384x8216, .f32⟩
  | .hbm, ⟨23, _⟩ => ⟨S16384x512, .f32⟩
  | .hbm, ⟨24, _⟩ => ⟨S16384x512, .f32⟩
  | .hbm, ⟨25, _⟩ => ⟨S16384x1024, .f32⟩
  | .hbm, ⟨26, _⟩ => ⟨S16384x1024, .f32⟩
  | .hbm, ⟨27, _⟩ => ⟨S16384x4, .f32⟩
  | .hbm, ⟨28, _⟩ => ⟨S16384x4, .f32⟩
  | .hbm, ⟨29, _⟩ => ⟨S16384x1024, .f32⟩
  | .hbm, ⟨30, _⟩ => ⟨S16384x2048, .f32⟩
  | .hbm, ⟨31, _⟩ => ⟨S16384x16, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x8192, .f32⟩
  | .hbm, ⟨38, _⟩ => ⟨S_, .f32⟩
  | .hbm, ⟨39, _⟩ => ⟨S16384x104, .f32⟩
  | .hbm, ⟨40, _⟩ => ⟨S16384x128, .f32⟩
  | .hbm, ⟨41, _⟩ => ⟨S16384x8192, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Mixer.lean ====
abbrev S16384x8192 : Shape := ⟨2, ![16384, 8192]⟩
abbrev S16384x128 : Shape := ⟨2, ![16384, 128]⟩
abbrev S16384x1024 : Shape := ⟨2, ![16384, 1024]⟩
abbrev S1x128 : Shape := ⟨2, ![1, 128]⟩
abbrev S1x1024 : Shape := ⟨2, ![1, 1024]⟩
abbrev S8x2048 : Shape := ⟨2, ![8, 2048]⟩
abbrev S1x2048 : Shape := ⟨2, ![1, 2048]⟩
abbrev S4x128x256 : Shape := ⟨3, ![4, 128, 256]⟩
abbrev S8x128 : Shape := ⟨2, ![8, 128]⟩
abbrev S1024x1024 : Shape := ⟨2, ![1024, 1024]⟩
abbrev S512x8192 : Shape := ⟨2, ![512, 8192]⟩
abbrev S512x128 : Shape := ⟨2, ![512, 128]⟩
abbrev S512x1024 : Shape := ⟨2, ![512, 1024]⟩
abbrev S128x2048 : Shape := ⟨2, ![128, 2048]⟩
abbrev S128x128 : Shape := ⟨2, ![128, 128]⟩
abbrev S128x256 : Shape := ⟨2, ![128, 256]⟩
abbrev S128x1 : Shape := ⟨2, ![128, 1]⟩
abbrev S1x1 : Shape := ⟨2, ![1, 1]⟩
abbrev S128 : Shape := ⟨1, ![128]⟩
abbrev S1x128x256 : Shape := ⟨3, ![1, 128, 256]⟩
abbrev S1x256 : Shape := ⟨2, ![1, 256]⟩
abbrev S1 : Shape := ⟨1, ![1]⟩
abbrev S8x256 : Shape := ⟨2, ![8, 256]⟩
abbrev S120x256 : Shape := ⟨2, ![120, 256]⟩
abbrev S1024x256 : Shape := ⟨2, ![1024, 256]⟩
abbrev S512x256 : Shape := ⟨2, ![512, 256]⟩

abbrev nBuf : Space → Nat
  | .hbm => 19
  | .vmem => 32
  | .smem => 0
  | _ => 0

abbrev bufTy : (tb : Table) → Fin (tcTables nBuf tb) → BufTy
  | .hbm, ⟨0, _⟩ => ⟨S16384x8192, .bf16⟩
  | .hbm, ⟨1, _⟩ => ⟨S16384x128, .f32⟩
  | .hbm, ⟨2, _⟩ => ⟨S16384x1024, .f32⟩
  | .hbm, ⟨3, _⟩ => ⟨S1x128, .f32⟩
  | .hbm, ⟨4, _⟩ => ⟨S1x128, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8x2048, .f32⟩
  | .hbm, ⟨9, _⟩ => ⟨S1x2048, .f32⟩
  | .hbm, ⟨10, _⟩ => ⟨S4x128x256, .f32⟩
  | .hbm, ⟨11, _⟩ => ⟨S8x128, .f32⟩
  | .hbm, ⟨12, _⟩ => ⟨S8x128, .f32⟩
  | .hbm, ⟨13, _⟩ => ⟨S4x128x256, .f32⟩
  | .hbm, ⟨14, _⟩ => ⟨S8x2048, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S16384x1024, .f32⟩
  | .local _ .vmem, ⟨0, _⟩ => ⟨S512x8192, .bf16⟩
  | .local _ .vmem, ⟨1, _⟩ => ⟨S512x8192, .bf16⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S8x2048, .f32⟩
  | .local _ .vmem, ⟨12, _⟩ => ⟨S1x2048, .f32⟩
  | .local _ .vmem, ⟨13, _⟩ => ⟨S4x128x256, .f32⟩
  | .local _ .vmem, ⟨14, _⟩ => ⟨S8x128, .f32⟩
  | .local _ .vmem, ⟨15, _⟩ => ⟨S8x128, .f32⟩
  | .local _ .vmem, ⟨16, _⟩ => ⟨S4x128x256, .f32⟩
  | .local _ .vmem, ⟨17, _⟩ => ⟨S8x2048, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S4x128x256, .f32⟩
  | .local _ .vmem, ⟨24, _⟩ => ⟨S8x128, .f32⟩
  | .local _ .vmem, ⟨25, _⟩ => ⟨S8x128, .f32⟩
  | .local _ .vmem, ⟨26, _⟩ => ⟨S4x128x256, .f32⟩
  | .local _ .vmem, ⟨27, _⟩ => ⟨S8x2048, .f32⟩
  | .local _ .vmem, ⟨28, _⟩ => ⟨S128x2048, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  v104
def k0_off1 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v112 : Index := Scalar.indexCast v105
  let c0_90 : Index := 0#32
  ![v112.toNat, 0]
def k0_off2 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v172 : Index := Scalar.indexCast v105
  let c0_112 : Index := 0#32
  ![v172.toNat, 0]
def k0_off3 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v174 : Index := Scalar.indexCast v105
  let c512_113 : Index := 512#32
  ![v174.toNat, 512]
def k0_off4 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v176 : Index := Scalar.indexCast v105
  let c1024 : Index := 1024#32
  ![v176.toNat, 1024]
def k0_off5 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v234 : Index := Scalar.indexCast v105
  let c2048 : Index := 2048#32
  ![v234.toNat, 2048]
def k0_off6 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v248 : Index := Scalar.indexCast v105
  let c0_134 : Index := 0#32
  ![v248.toNat, 0]
def k0_off7 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v301 : Index := Scalar.indexCast v105
  let c128 : Index := 128#32
  ![v301.toNat, 128]
def k0_off8 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v303 : Index := Scalar.indexCast v105
  let c640 : Index := 640#32
  ![v303.toNat, 640]
def k0_off9 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v305 : Index := Scalar.indexCast v105
  let c1280 : Index := 1280#32
  ![v305.toNat, 1280]
def k0_off10 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v363 : Index := Scalar.indexCast v105
  let c2304 : Index := 2304#32
  ![v363.toNat, 2304]
def k0_off11 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v377 : Index := Scalar.indexCast v105
  let c256_169 : Index := 256#32
  ![v377.toNat, 256]
def k0_off12 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v430 : Index := Scalar.indexCast v105
  let c256_185 : Index := 256#32
  ![v430.toNat, 256]
def k0_off13 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v432 : Index := Scalar.indexCast v105
  let c768_186 : Index := 768#32
  ![v432.toNat, 768]
def k0_off14 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v434 : Index := Scalar.indexCast v105
  let c1536 : Index := 1536#32
  ![v434.toNat, 1536]
def k0_off15 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v492 : Index := Scalar.indexCast v105
  let c2560 : Index := 2560#32
  ![v492.toNat, 2560]
def k0_off16 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v506 : Index := Scalar.indexCast v105
  let c512_206 : Index := 512#32
  ![v506.toNat, 512]
def k0_off17 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v559 : Index := Scalar.indexCast v105
  let c384 : Index := 384#32
  ![v559.toNat, 384]
def k0_off18 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v561 : Index := Scalar.indexCast v105
  let c896 : Index := 896#32
  ![v561.toNat, 896]
def k0_off19 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v563 : Index := Scalar.indexCast v105
  let c1792 : Index := 1792#32
  ![v563.toNat, 1792]
def k0_off20 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v621 : Index := Scalar.indexCast v105
  let c2816 : Index := 2816#32
  ![v621.toNat, 2816]
def k0_off21 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v635 : Index := Scalar.indexCast v105
  let c768_241 : Index := 768#32
  ![v635.toNat, 768]
def k0_off22 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v689 : Index := Scalar.indexCast v105
  let c4096 : Index := 4096#32
  ![v689.toNat, 4096]
def k0_off23 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v744 : Index := Scalar.indexCast v105
  let c4352 : Index := 4352#32
  ![v744.toNat, 4352]
def k0_off24 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v799 : Index := Scalar.indexCast v105
  let c4608 : Index := 4608#32
  ![v799.toNat, 4608]
def k0_off25 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v854 : Index := Scalar.indexCast v105
  let c4864 : Index := 4864#32
  ![v854.toNat, 4864]
def k0_off26 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v909 : Index := Scalar.indexCast v105
  let c5120 : Index := 5120#32
  ![v909.toNat, 5120]
def k0_off27 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v964 : Index := Scalar.indexCast v105
  let c5376 : Index := 5376#32
  ![v964.toNat, 5376]
def k0_off28 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v1019 : Index := Scalar.indexCast v105
  let c5632 : Index := 5632#32
  ![v1019.toNat, 5632]
def k0_off29 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v1074 : Index := Scalar.indexCast v105
  let c5888 : Index := 5888#32
  ![v1074.toNat, 5888]
def k0_off30 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v1331 : Index := Scalar.indexCast v105
  let c3072 : Index := 3072#32
  ![v1331.toNat, 3072]
def k0_off31 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v1566 : Index := Scalar.indexCast v105
  let c3328 : Index := 3328#32
  ![v1566.toNat, 3328]
def k0_off32 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v1801 : Index := Scalar.indexCast v105
  let c3584 : Index := 3584#32
  ![v1801.toNat, 3584]
def k0_off33 (k0_t1 : Fin k0_t1_loop.trips) : Fin 2 → Nat :=
  let c0_i32_1 : BitVec 32 := 0#32
  let c1_i32 : BitVec 32 := 1#32
  let arg30 : BitVec 32 := Scf.iv c0_i32_1 c1_i32 k0_t1
  let c128_i32 : BitVec 32 := 128#32
  let v104 : BitVec 32 := Scalar.muli arg30 c128_i32
  let v105 : BitVec 32 := v104
  let v2036 : Index := Scalar.indexCast v105
  let c3840 : Index := 3840#32
  ![v2036.toNat, 3840]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MixerRefIdeal.lean ====
abbrev S16384x8192 : Shape := ⟨2, ![16384, 8192]⟩
abbrev S16384x128 : Shape := ⟨2, ![16384, 128]⟩
abbrev S16384x1024 : Shape := ⟨2, ![16384, 1024]⟩
abbrev S1x128 : Shape := ⟨2, ![1, 128]⟩
abbrev S1x1024 : Shape := ⟨2, ![1, 1024]⟩
abbrev S8x2048 : Shape := ⟨2, ![8, 2048]⟩
abbrev S1x2048 : Shape := ⟨2, ![1, 2048]⟩
abbrev S4x128x256 : Shape := ⟨3, ![4, 128, 256]⟩
abbrev S8x128 : Shape := ⟨2, ![8, 128]⟩
abbrev S1024x1024 : Shape := ⟨2, ![1024, 1024]⟩
abbrev S8x2048x8192 : Shape := ⟨3, ![8, 2048, 8192]⟩
abbrev S8x2048x512 : Shape := ⟨3, ![8, 2048, 512]⟩
abbrev S8x2048x1024 : Shape := ⟨3, ![8, 2048, 1024]⟩
abbrev S8x2048x2048 : Shape := ⟨3, ![8, 2048, 2048]⟩
abbrev S8x2048x128 : Shape := ⟨3, ![8, 2048, 128]⟩
abbrev S128 : Shape := ⟨1, ![128]⟩
abbrev S1x1x128 : Shape := ⟨3, ![1, 1, 128]⟩
abbrev S8x2048x4 : Shape := ⟨3, ![8, 2048, 4]⟩
abbrev S8x2048x16 : Shape := ⟨3, ![8, 2048, 16]⟩
abbrev S_ : Shape := ⟨0, ![]⟩
abbrev S128x128 : Shape := ⟨2, ![128, 128]⟩
abbrev S8x16x128x4x128 : Shape := ⟨5, ![8, 16, 128, 4, 128]⟩
abbrev S8x16x128x4x256 : Shape := ⟨5, ![8, 16, 128, 4, 256]⟩
abbrev S8x16x128x4 : Shape := ⟨4, ![8, 16, 128, 4]⟩
abbrev S8x16x4x128 : Shape := ⟨4, ![8, 16, 4, 128]⟩
abbrev S8x16x4x1 : Shape := ⟨4, ![8, 16, 4, 1]⟩
abbrev S8x16x4 : Shape := ⟨3, ![8, 16, 4]⟩
abbrev S8x16x4x128x1 : Shape := ⟨5, ![8, 16, 4, 128, 1]⟩
abbrev S8x16x4x1x128 : Shape := ⟨5, ![8, 16, 4, 1, 128]⟩
abbrev S8x16x4x128x128 : Shape := ⟨5, ![8, 16, 4, 128, 128]⟩
abbrev S8x16x128x4x1 : Shape := ⟨5, ![8, 16, 128, 4, 1]⟩
abbrev S8x16x4x256x128 : Shape := ⟨5, ![8, 16, 4, 256, 128]⟩
abbrev S3x2048 : Shape := ⟨2, ![3, 2048]⟩
abbrev S1x3x2048 : Shape := ⟨3, ![1, 3, 2048]⟩
abbrev S8x3x2048 : Shape := ⟨3, ![8, 3, 2048]⟩
abbrev S8x2051x2048 : Shape := ⟨3, ![8, 2051, 2048]⟩
abbrev S2048 : Shape := ⟨1, ![2048]⟩
abbrev S1x1x2048 : Shape := ⟨3, ![1, 1, 2048]⟩
abbrev S8x16x128x4x4x64 : Shape := ⟨6, ![8, 16, 128, 4, 4, 64]⟩
abbrev S8x16x128x4x4 : Shape := ⟨5, ![8, 16, 128, 4, 4]⟩
abbrev S1x16 : Shape := ⟨2, ![1, 16]⟩
abbrev S16 : Shape := ⟨1, ![16]⟩
abbrev S4x4 : Shape := ⟨2, ![4, 4]⟩
abbrev S1x1x1x4x4 : Shape := ⟨5, ![1, 1, 1, 4, 4]⟩
abbrev S8x16x4x4x128 : Shape := ⟨5, ![8, 16, 4, 4, 128]⟩
abbrev S8x16x4x4x128x1 : Shape := ⟨6, ![8, 16, 4, 4, 128, 1]⟩
abbrev S8x16x4x4x1x128 : Shape := ⟨6, ![8, 16, 4, 4, 1, 128]⟩
abbrev S8x16x4x4x128x128 : Shape := ⟨6, ![8, 16, 4, 4, 128, 128]⟩
abbrev S8x16x4x1x128x128 : Shape := ⟨6, ![8, 16, 4, 1, 128, 128]⟩
abbrev S8x16x4x4x64x128 : Shape := ⟨6, ![8, 16, 4, 4, 64, 128]⟩
abbrev S8x16x4x4x1 : Shape := ⟨5, ![8, 16, 4, 4, 1]⟩
abbrev S8x16x128x4x4x1 : Shape := ⟨6, ![8, 16, 128, 4, 4, 1]⟩
abbrev S8x16x4x4 : Shape := ⟨4, ![8, 16, 4, 4]⟩
abbrev S4x256x128 : Shape := ⟨3, ![4, 256, 128]⟩
abbrev S8x4x256x128 : Shape := ⟨4, ![8, 4, 256, 128]⟩
abbrev S4x128 : Shape := ⟨2, ![4, 128]⟩
abbrev S8x4x128 : Shape := ⟨3, ![8, 4, 128]⟩
abbrev S4x1 : Shape := ⟨2, ![4, 1]⟩
abbrev S4 : Shape := ⟨1, ![4]⟩
abbrev S8x4 : Shape := ⟨2, ![8, 4]⟩
abbrev S4x128x4x64 : Shape := ⟨4, ![4, 128, 4, 64]⟩
abbrev S4x4x64x128 : Shape := ⟨4, ![4, 4, 64, 128]⟩
abbrev S8x4x4x64x128 : Shape := ⟨5, ![8, 4, 4, 64, 128]⟩
abbrev S16x8x4 : Shape := ⟨3, ![16, 8, 4]⟩
abbrev S16x8x4x256x128 : Shape := ⟨5, ![16, 8, 4, 256, 128]⟩
abbrev S16x8x4x128 : Shape := ⟨4, ![16, 8, 4, 128]⟩
abbrev S16x8x4x4 : Shape := ⟨4, ![16, 8, 4, 4]⟩
abbrev S16x8x4x4x64x128 : Shape := ⟨6, ![16, 8, 4, 4, 64, 128]⟩
abbrev S1x8x4 : Shape := ⟨3, ![1, 8, 4]⟩
abbrev S1x8x4x256x128 : Shape := ⟨5, ![1, 8, 4, 256, 128]⟩
abbrev S1x8x4x128 : Shape := ⟨4, ![1, 8, 4, 128]⟩
abbrev S1x8x4x4 : Shape := ⟨4, ![1, 8, 4, 4]⟩
abbrev S8x4x4 : Shape := ⟨3, ![8, 4, 4]⟩
abbrev S1x8x4x4x64x128 : Shape := ⟨6, ![1, 8, 4, 4, 64, 128]⟩
abbrev S8x4x1x1 : Shape := ⟨4, ![8, 4, 1, 1]⟩
abbrev S8x4x1 : Shape := ⟨3, ![8, 4, 1]⟩
abbrev S8x4x4x1x1 : Shape := ⟨5, ![8, 4, 4, 1, 1]⟩
abbrev S8x16x4x128x256 : Shape := ⟨5, ![8, 16, 4, 128, 256]⟩
abbrev S4x256 : Shape := ⟨2, ![4, 256]⟩
abbrev S1x1x1x4x256 : Shape := ⟨5, ![1, 1, 1, 4, 256]⟩
abbrev S4x4x64 : Shape := ⟨3, ![4, 4, 64]⟩
abbrev S1x1x1x4x4x64 : Shape := ⟨6, ![1, 1, 1, 4, 4, 64]⟩
abbrev S8x2048x4x256 : Shape := ⟨4, ![8, 2048, 4, 256]⟩
abbrev S8x2048x4x1 : Shape := ⟨4, ![8, 2048, 4, 1]⟩
abbrev S1x1x4x256 : Shape := ⟨4, ![1, 1, 4, 256]⟩

abbrev nBuf : Space → Nat
  | .hbm => 490
  | .vmem => 0
  | .smem => 0
  | _ => 0

abbrev hbmTy0_0 (i : Nat) : BufTy := match i % 128 with
  | 0 => ⟨S16384x8192, .bf16⟩
  | 1 => ⟨S16384x128, .f32⟩
  | 2 => ⟨S16384x1024, .f32⟩
  | 3 => ⟨S1x128, .f32⟩
  | 4 => ⟨S1x128, .f32⟩
  | 5 => ⟨S1x1024, .f32⟩
  | 6 => ⟨S1x1024, .f32⟩
  | 7 => ⟨S1x1024, .f32⟩
  | 8 => ⟨S8x2048, .f32⟩
  | 9 => ⟨S1x2048, .f32⟩
  | 10 => ⟨S4x128x256, .f32⟩
  | 11 => ⟨S8x128, .f32⟩
  | 12 => ⟨S8x128, .f32⟩
  | 13 => ⟨S4x128x256, .f32⟩
  | 14 => ⟨S8x2048, .f32⟩
  | 15 => ⟨S1024x1024, .bf16⟩
  | 16 => ⟨S1024x1024, .bf16⟩
  | 17 => ⟨S1024x1024, .bf16⟩
  | 18 => ⟨S16384x8192, .f32⟩
  | 19 => ⟨S8x2048x8192, .f32⟩
  | 20 => ⟨S8x2048x512, .f32⟩
  | 21 => ⟨S8x2048x512, .f32⟩
  | 22 => ⟨S8x2048x1024, .f32⟩
  | 23 => ⟨S8x2048x1024, .f32⟩
  | 24 => ⟨S8x2048x1024, .f32⟩
  | 25 => ⟨S8x2048x2048, .f32⟩
  | 26 => ⟨S8x2048x1024, .f32⟩
  | 27 => ⟨S8x2048x1024, .f32⟩
  | 28 => ⟨S8x2048x128, .f32⟩
  | 29 => ⟨S128, .f32⟩
  | 30 => ⟨S1x1x128, .f32⟩
  | 31 => ⟨S8x2048x128, .f32⟩
  | 32 => ⟨S8x2048x128, .f32⟩
  | 33 => ⟨S8x2048x4, .f32⟩
  | 34 => ⟨S8x2048x4, .f32⟩
  | 35 => ⟨S8x2048x16, .f32⟩
  | 36 => ⟨S_, .i1⟩
  | 37 => ⟨S128x128, .i1⟩
  | 38 => ⟨S128x128, .i32⟩
  | 39 => ⟨S_, .i32⟩
  | 40 => ⟨S128x128, .i32⟩
  | 41 => ⟨S128x128, .i32⟩
  | 42 => ⟨S128x128, .i32⟩
  | 43 => ⟨S128x128, .i1⟩
  | 44 => ⟨S_, .i1⟩
  | 45 => ⟨S128x128, .i1⟩
  | 46 => ⟨S128x128, .i1⟩
  | 47 => ⟨S_, .f32⟩
  | 48 => ⟨S8x2048x4, .f32⟩
  | 49 => ⟨S8x2048x4, .f32⟩
  | 50 => ⟨S8x2048x4, .f32⟩
  | 51 => ⟨S_, .f32⟩
  | 52 => ⟨S8x2048x4, .f32⟩
  | 53 => ⟨S8x2048x4, .f32⟩
  | 54 => ⟨S_, .f32⟩
  | 55 => ⟨S8x2048x4, .f32⟩
  | 56 => ⟨S8x2048x4, .f32⟩
  | 57 => ⟨S8x2048x4, .f32⟩
  | 58 => ⟨S_, .f32⟩
  | 59 => ⟨S8x2048x4, .f32⟩
  | 60 => ⟨S8x2048x4, .f32⟩
  | 61 => ⟨S8x2048x4, .f32⟩
  | 62 => ⟨S_, .f32⟩
  | 63 => ⟨S8x2048x4, .f32⟩
  | 64 => ⟨S8x2048x4, .f32⟩
  | 65 => ⟨S8x2048x4, .f32⟩
  | 66 => ⟨S8x2048x4, .f32⟩
  | 67 => ⟨S8x2048x4, .i1⟩
  | 68 => ⟨S8x2048x4, .f32⟩
  | 69 => ⟨S8x2048x4, .f32⟩
  | 70 => ⟨S8x2048x4, .f32⟩
  | 71 => ⟨S8x2048x4, .f32⟩
  | 72 => ⟨S8x2048x4, .f32⟩
  | 73 => ⟨S8x2048x4, .f32⟩
  | 74 => ⟨S8x2048x4, .f32⟩
  | 75 => ⟨S8x2048x4, .f32⟩
  | 76 => ⟨S8x2048x4, .f32⟩
  | 77 => ⟨S8x16x128x4x128, .f32⟩
  | 78 => ⟨S8x16x128x4x128, .f32⟩
  | 79 => ⟨S8x16x128x4x256, .f32⟩
  | 80 => ⟨S8x16x128x4, .f32⟩
  | 81 => ⟨S8x16x4x128, .f32⟩
  | 82 => ⟨S8x16x128x4, .f32⟩
  | 83 => ⟨S8x16x4x128, .f32⟩
  | 84 => ⟨S_, .f32⟩
  | 85 => ⟨S_, .f32⟩
  | 86 => ⟨S8x16x4x128, .f32⟩
  | 87 => ⟨S8x16x4x1, .f32⟩
  | 88 => ⟨S8x16x4, .f32⟩
  | 89 => ⟨S8x16x4x128x1, .f32⟩
  | 90 => ⟨S8x16x4x1x128, .f32⟩
  | 91 => ⟨S8x16x4x128x128, .f32⟩
  | 92 => ⟨S8x16x4x128x128, .f32⟩
  | 93 => ⟨S8x16x4x128x128, .f32⟩
  | 94 => ⟨S8x16x4x1x128, .f32⟩
  | 95 => ⟨S8x16x4x128x128, .f32⟩
  | 96 => ⟨S8x16x4x128x128, .f32⟩
  | 97 => ⟨S_, .f32⟩
  | 98 => ⟨S_, .f32⟩
  | 99 => ⟨S8x16x4x128x128, .i1⟩
  | 100 => ⟨S8x16x4x128x128, .f32⟩
  | 101 => ⟨S8x16x4x128x128, .f32⟩
  | 102 => ⟨S8x16x4x1, .f32⟩
  | 103 => ⟨S8x16x4x128, .f32⟩
  | 104 => ⟨S8x16x4x128, .f32⟩
  | 105 => ⟨S8x16x4x128, .f32⟩
  | 106 => ⟨S_, .f32⟩
  | 107 => ⟨S8x16x4, .f32⟩
  | 108 => ⟨S8x16x4x1, .f32⟩
  | 109 => ⟨S8x16x4x128, .f32⟩
  | 110 => ⟨S8x16x4x128, .f32⟩
  | 111 => ⟨S8x16x4x128, .f32⟩
  | 112 => ⟨S8x16x128x4, .f32⟩
  | 113 => ⟨S8x16x128x4x1, .f32⟩
  | 114 => ⟨S8x16x128x4x256, .f32⟩
  | 115 => ⟨S8x16x128x4x256, .f32⟩
  | 116 => ⟨S8x16x4x256x128, .f32⟩
  | 117 => ⟨S8x16x4x128, .f32⟩
  | 118 => ⟨S3x2048, .f32⟩
  | 119 => ⟨S1x3x2048, .f32⟩
  | 120 => ⟨S8x3x2048, .f32⟩
  | 121 => ⟨S8x2051x2048, .f32⟩
  | 122 => ⟨S2048, .f32⟩
  | 123 => ⟨S8x2048x2048, .f32⟩
  | 124 => ⟨S1x2048, .f32⟩
  | 125 => ⟨S2048, .f32⟩
  | 126 => ⟨S1x1x2048, .f32⟩
  | 127 => ⟨S8x2048x2048, .f32⟩
  | _ => ⟨S16384x8192, .bf16⟩

abbrev hbmTy0_1 (i : Nat) : BufTy := match i % 128 with
  | 0 => ⟨S8x2048x2048, .f32⟩
  | 1 => ⟨S_, .f32⟩
  | 2 => ⟨S8x2048x2048, .f32⟩
  | 3 => ⟨S8x2048x2048, .f32⟩
  | 4 => ⟨S8x2048x2048, .f32⟩
  | 5 => ⟨S1x2048, .f32⟩
  | 6 => ⟨S2048, .f32⟩
  | 7 => ⟨S1x1x2048, .f32⟩
  | 8 => ⟨S8x2048x2048, .f32⟩
  | 9 => ⟨S8x2048x2048, .f32⟩
  | 10 => ⟨S8x2048x2048, .f32⟩
  | 11 => ⟨S8x2048x2048, .f32⟩
  | 12 => ⟨S1x2048, .f32⟩
  | 13 => ⟨S2048, .f32⟩
  | 14 => ⟨S1x1x2048, .f32⟩
  | 15 => ⟨S8x2048x2048, .f32⟩
  | 16 => ⟨S8x2048x2048, .f32⟩
  | 17 => ⟨S8x2048x2048, .f32⟩
  | 18 => ⟨S8x2048x2048, .f32⟩
  | 19 => ⟨S1x2048, .f32⟩
  | 20 => ⟨S2048, .f32⟩
  | 21 => ⟨S1x1x2048, .f32⟩
  | 22 => ⟨S8x2048x2048, .f32⟩
  | 23 => ⟨S8x2048x2048, .f32⟩
  | 24 => ⟨S8x2048x2048, .f32⟩
  | 25 => ⟨S1x1x2048, .f32⟩
  | 26 => ⟨S8x2048x2048, .f32⟩
  | 27 => ⟨S8x2048x2048, .f32⟩
  | 28 => ⟨S8x2048x2048, .f32⟩
  | 29 => ⟨S8x2048x2048, .f32⟩
  | 30 => ⟨S_, .f32⟩
  | 31 => ⟨S8x2048x2048, .f32⟩
  | 32 => ⟨S8x2048x2048, .f32⟩
  | 33 => ⟨S_, .f32⟩
  | 34 => ⟨S8x2048x2048, .f32⟩
  | 35 => ⟨S8x2048x2048, .f32⟩
  | 36 => ⟨S8x2048x2048, .f32⟩
  | 37 => ⟨S8x2048x1024, .f32⟩
  | 38 => ⟨S8x2048x512, .f32⟩
  | 39 => ⟨S8x2048x512, .f32⟩
  | 40 => ⟨S8x16x128x4x4x64, .f32⟩
  | 41 => ⟨S_, .f32⟩
  | 42 => ⟨S8x2048x16, .f32⟩
  | 43 => ⟨S8x2048x16, .f32⟩
  | 44 => ⟨S8x2048x16, .f32⟩
  | 45 => ⟨S8x2048x16, .f32⟩
  | 46 => ⟨S8x2048x16, .i1⟩
  | 47 => ⟨S8x2048x16, .f32⟩
  | 48 => ⟨S8x2048x16, .f32⟩
  | 49 => ⟨S8x2048x16, .f32⟩
  | 50 => ⟨S8x2048x16, .f32⟩
  | 51 => ⟨S8x2048x16, .f32⟩
  | 52 => ⟨S8x2048x16, .f32⟩
  | 53 => ⟨S8x2048x16, .f32⟩
  | 54 => ⟨S8x2048x16, .f32⟩
  | 55 => ⟨S8x16x128x4x4, .f32⟩
  | 56 => ⟨S1x16, .f32⟩
  | 57 => ⟨S16, .f32⟩
  | 58 => ⟨S16, .f32⟩
  | 59 => ⟨S4x4, .f32⟩
  | 60 => ⟨S4x4, .f32⟩
  | 61 => ⟨S8x16x128x4x128, .f32⟩
  | 62 => ⟨S8x16x128x4x128, .f32⟩
  | 63 => ⟨S1x1x1x4x4, .f32⟩
  | 64 => ⟨S8x16x128x4x4, .f32⟩
  | 65 => ⟨S8x16x128x4x4, .f32⟩
  | 66 => ⟨S_, .f32⟩
  | 67 => ⟨S_, .f32⟩
  | 68 => ⟨S8x16x128x4x4, .f32⟩
  | 69 => ⟨S8x16x4x4x128, .f32⟩
  | 70 => ⟨S8x16x4x4x128, .f32⟩
  | 71 => ⟨S8x16x4x4x128x1, .f32⟩
  | 72 => ⟨S8x16x4x4x1x128, .f32⟩
  | 73 => ⟨S8x16x4x4x128x128, .f32⟩
  | 74 => ⟨S8x16x4x4x128x128, .f32⟩
  | 75 => ⟨S8x16x4x4x128x128, .f32⟩
  | 76 => ⟨S_, .f32⟩
  | 77 => ⟨S_, .f32⟩
  | 78 => ⟨S8x16x4x4x128x128, .i1⟩
  | 79 => ⟨S8x16x4x4x128x128, .f32⟩
  | 80 => ⟨S8x16x4x4x128x128, .f32⟩
  | 81 => ⟨S8x16x4x4x128x128, .f32⟩
  | 82 => ⟨S8x16x4x128x128, .f32⟩
  | 83 => ⟨S8x16x4x1x128x128, .f32⟩
  | 84 => ⟨S8x16x4x4x128x128, .f32⟩
  | 85 => ⟨S8x16x4x4x128x128, .f32⟩
  | 86 => ⟨S8x16x4x4x1x128, .f32⟩
  | 87 => ⟨S8x16x4x4x128x128, .f32⟩
  | 88 => ⟨S8x16x4x4x128x128, .f32⟩
  | 89 => ⟨S8x16x4x4x64x128, .f32⟩
  | 90 => ⟨S8x16x128x4x4x64, .f32⟩
  | 91 => ⟨S8x16x4x4x1, .f32⟩
  | 92 => ⟨S8x16x4x4x128, .f32⟩
  | 93 => ⟨S8x16x4x4x128, .f32⟩
  | 94 => ⟨S8x16x4x4x128, .f32⟩
  | 95 => ⟨S8x16x4x4x128, .f32⟩
  | 96 => ⟨S8x16x128x4x4, .f32⟩
  | 97 => ⟨S8x16x128x4x4x1, .f32⟩
  | 98 => ⟨S8x16x128x4x4x64, .f32⟩
  | 99 => ⟨S8x16x128x4x4x64, .f32⟩
  | 100 => ⟨S8x16x4x4x64x128, .f32⟩
  | 101 => ⟨S8x16x4x4x1, .f32⟩
  | 102 => ⟨S8x16x4x4, .f32⟩
  | 103 => ⟨S8x16x4x4, .f32⟩
  | 104 => ⟨S4x256x128, .f32⟩
  | 105 => ⟨S8x4x256x128, .f32⟩
  | 106 => ⟨S4x128, .f32⟩
  | 107 => ⟨S8x4x128, .f32⟩
  | 108 => ⟨S4x1, .f32⟩
  | 109 => ⟨S4, .f32⟩
  | 110 => ⟨S8x4, .f32⟩
  | 111 => ⟨S4x128x4x64, .f32⟩
  | 112 => ⟨S4x4x64x128, .f32⟩
  | 113 => ⟨S8x4x4x64x128, .f32⟩
  | 114 => ⟨S16x8x4, .f32⟩
  | 115 => ⟨S16x8x4, .f32⟩
  | 116 => ⟨S16x8x4x256x128, .f32⟩
  | 117 => ⟨S16x8x4x128, .f32⟩
  | 118 => ⟨S16x8x4x4, .f32⟩
  | 119 => ⟨S16x8x4x4x64x128, .f32⟩
  | 120 => ⟨S_, .f32⟩
  | 121 => ⟨S16x8x4x256x128, .f32⟩
  | 122 => ⟨S_, .f32⟩
  | 123 => ⟨S16x8x4x128, .f32⟩
  | 124 => ⟨S_, .f32⟩
  | 125 => ⟨S16x8x4, .f32⟩
  | 126 => ⟨S_, .f32⟩
  | 127 => ⟨S16x8x4x4x64x128, .f32⟩
  | _ => ⟨S16384x8192, .bf16⟩

abbrev hbmTy0_2 (i : Nat) : BufTy := match i % 128 with
  | 0 => ⟨S_, .i32⟩
  | 1 => ⟨S16x8x4, .f32⟩
  | 2 => ⟨S16x8x4, .f32⟩
  | 3 => ⟨S16x8x4x256x128, .f32⟩
  | 4 => ⟨S16x8x4x128, .f32⟩
  | 5 => ⟨S16x8x4x4, .f32⟩
  | 6 => ⟨S16x8x4x4x64x128, .f32⟩
  | 7 => ⟨S_, .i32⟩
  | 8 => ⟨S8x4x256x128, .f32⟩
  | 9 => ⟨S8x4x128, .f32⟩
  | 10 => ⟨S8x4, .f32⟩
  | 11 => ⟨S8x4x4x64x128, .f32⟩
  | 12 => ⟨S16x8x4x256x128, .f32⟩
  | 13 => ⟨S16x8x4x128, .f32⟩
  | 14 => ⟨S16x8x4, .f32⟩
  | 15 => ⟨S16x8x4x4x64x128, .f32⟩
  | 16 => ⟨S_, .i32⟩
  | 17 => ⟨S_, .i1⟩
  | 18 => ⟨S_, .i32⟩
  | 19 => ⟨S_, .i32⟩
  | 20 => ⟨S1x8x4, .f32⟩
  | 21 => ⟨S8x4, .f32⟩
  | 22 => ⟨S_, .i32⟩
  | 23 => ⟨S_, .i32⟩
  | 24 => ⟨S1x8x4, .f32⟩
  | 25 => ⟨S8x4, .f32⟩
  | 26 => ⟨S_, .i32⟩
  | 27 => ⟨S_, .i32⟩
  | 28 => ⟨S_, .i32⟩
  | 29 => ⟨S_, .i32⟩
  | 30 => ⟨S1x8x4x256x128, .f32⟩
  | 31 => ⟨S8x4x256x128, .f32⟩
  | 32 => ⟨S_, .i32⟩
  | 33 => ⟨S_, .i32⟩
  | 34 => ⟨S_, .i32⟩
  | 35 => ⟨S1x8x4x128, .f32⟩
  | 36 => ⟨S8x4x128, .f32⟩
  | 37 => ⟨S_, .i32⟩
  | 38 => ⟨S_, .i32⟩
  | 39 => ⟨S_, .i32⟩
  | 40 => ⟨S1x8x4x4, .f32⟩
  | 41 => ⟨S8x4x4, .f32⟩
  | 42 => ⟨S_, .i32⟩
  | 43 => ⟨S_, .i32⟩
  | 44 => ⟨S_, .i32⟩
  | 45 => ⟨S_, .i32⟩
  | 46 => ⟨S_, .i32⟩
  | 47 => ⟨S1x8x4x4x64x128, .f32⟩
  | 48 => ⟨S8x4x4x64x128, .f32⟩
  | 49 => ⟨S8x4, .f32⟩
  | 50 => ⟨S8x4, .f32⟩
  | 51 => ⟨S8x4, .f32⟩
  | 52 => ⟨S8x4, .f32⟩
  | 53 => ⟨S8x4, .f32⟩
  | 54 => ⟨S8x4, .f32⟩
  | 55 => ⟨S8x4, .f32⟩
  | 56 => ⟨S8x4x1x1, .f32⟩
  | 57 => ⟨S8x4x256x128, .f32⟩
  | 58 => ⟨S8x4x256x128, .f32⟩
  | 59 => ⟨S8x4x1x1, .f32⟩
  | 60 => ⟨S8x4x256x128, .f32⟩
  | 61 => ⟨S8x4x256x128, .f32⟩
  | 62 => ⟨S8x4x256x128, .f32⟩
  | 63 => ⟨S8x4x1, .f32⟩
  | 64 => ⟨S8x4x128, .f32⟩
  | 65 => ⟨S8x4x128, .f32⟩
  | 66 => ⟨S8x4x1, .f32⟩
  | 67 => ⟨S8x4x128, .f32⟩
  | 68 => ⟨S8x4x128, .f32⟩
  | 69 => ⟨S8x4x128, .f32⟩
  | 70 => ⟨S8x4x4x1x1, .f32⟩
  | 71 => ⟨S8x4x4x64x128, .f32⟩
  | 72 => ⟨S8x4x4x64x128, .f32⟩
  | 73 => ⟨S8x4x4x64x128, .f32⟩
  | 74 => ⟨S1x8x4x256x128, .f32⟩
  | 75 => ⟨S_, .i32⟩
  | 76 => ⟨S_, .i32⟩
  | 77 => ⟨S_, .i32⟩
  | 78 => ⟨S_, .i32⟩
  | 79 => ⟨S16x8x4x256x128, .f32⟩
  | 80 => ⟨S1x8x4x128, .f32⟩
  | 81 => ⟨S_, .i32⟩
  | 82 => ⟨S_, .i32⟩
  | 83 => ⟨S_, .i32⟩
  | 84 => ⟨S16x8x4x128, .f32⟩
  | 85 => ⟨S1x8x4, .f32⟩
  | 86 => ⟨S_, .i32⟩
  | 87 => ⟨S_, .i32⟩
  | 88 => ⟨S16x8x4, .f32⟩
  | 89 => ⟨S1x8x4x4x64x128, .f32⟩
  | 90 => ⟨S_, .i32⟩
  | 91 => ⟨S_, .i32⟩
  | 92 => ⟨S_, .i32⟩
  | 93 => ⟨S_, .i32⟩
  | 94 => ⟨S_, .i32⟩
  | 95 => ⟨S16x8x4x4x64x128, .f32⟩
  | 96 => ⟨S_, .i32⟩
  | 97 => ⟨S_, .i32⟩
  | 98 => ⟨S8x16x4x256x128, .f32⟩
  | 99 => ⟨S8x16x4x128, .f32⟩
  | 100 => ⟨S8x16x4, .f32⟩
  | 101 => ⟨S8x16x4x4x64x128, .f32⟩
  | 102 => ⟨S8x16x4x1, .f32⟩
  | 103 => ⟨S8x16x4x128, .f32⟩
  | 104 => ⟨S8x16x4x128, .f32⟩
  | 105 => ⟨S_, .f32⟩
  | 106 => ⟨S8x16x4x128, .f32⟩
  | 107 => ⟨S8x16x4x128, .f32⟩
  | 108 => ⟨S8x16x4x128x128, .f32⟩
  | 109 => ⟨S8x16x4x128x1, .f32⟩
  | 110 => ⟨S8x16x4x128x128, .f32⟩
  | 111 => ⟨S8x16x4x128x128, .f32⟩
  | 112 => ⟨S8x16x4x128x128, .f32⟩
  | 113 => ⟨S8x16x4x128x128, .f32⟩
  | 114 => ⟨S8x16x4x128, .f32⟩
  | 115 => ⟨S8x16x4x128, .f32⟩
  | 116 => ⟨S8x16x4x256x128, .f32⟩
  | 117 => ⟨S8x16x128x4x256, .f32⟩
  | 118 => ⟨S8x16x4x128x256, .f32⟩
  | 119 => ⟨S8x16x128x4x256, .f32⟩
  | 120 => ⟨S8x16x128x4, .f32⟩
  | 121 => ⟨S8x16x128x4x1, .f32⟩
  | 122 => ⟨S8x16x128x4x256, .f32⟩
  | 123 => ⟨S8x16x128x4x256, .f32⟩
  | 124 => ⟨S8x16x128x4x256, .f32⟩
  | 125 => ⟨S_, .f32⟩
  | 126 => ⟨S8x16x4x128, .f32⟩
  | 127 => ⟨S8x16x4x128, .f32⟩
  | _ => ⟨S16384x8192, .bf16⟩

abbrev hbmTy0_3 (i : Nat) : BufTy := match i % 128 with
  | 0 => ⟨S8x16x4x128, .f32⟩
  | 1 => ⟨S8x16x4x128, .f32⟩
  | 2 => ⟨S8x16x4x128, .f32⟩
  | 3 => ⟨S8x16x4x128, .f32⟩
  | 4 => ⟨S8x16x4x128, .f32⟩
  | 5 => ⟨S8x16x4x128, .f32⟩
  | 6 => ⟨S8x16x128x4, .f32⟩
  | 7 => ⟨S8x16x128x4x1, .f32⟩
  | 8 => ⟨S8x16x128x4x256, .f32⟩
  | 9 => ⟨S8x16x128x4x256, .f32⟩
  | 10 => ⟨S4x256, .f32⟩
  | 11 => ⟨S8x16x128x4x256, .f32⟩
  | 12 => ⟨S_, .f32⟩
  | 13 => ⟨S8x16x128x4, .f32⟩
  | 14 => ⟨S8x16x128x4x1, .f32⟩
  | 15 => ⟨S_, .f32⟩
  | 16 => ⟨S8x16x128x4x1, .f32⟩
  | 17 => ⟨S8x16x128x4x1, .f32⟩
  | 18 => ⟨S_, .f32⟩
  | 19 => ⟨S8x16x128x4x1, .f32⟩
  | 20 => ⟨S8x16x128x4x1, .f32⟩
  | 21 => ⟨S8x16x128x4x1, .f32⟩
  | 22 => ⟨S8x16x128x4x256, .f32⟩
  | 23 => ⟨S8x16x128x4x256, .f32⟩
  | 24 => ⟨S1x1x1x4x256, .f32⟩
  | 25 => ⟨S8x16x128x4x256, .f32⟩
  | 26 => ⟨S8x16x128x4x256, .f32⟩
  | 27 => ⟨S8x2048x1024, .f32⟩
  | 28 => ⟨S8x2048x1024, .f32⟩
  | 29 => ⟨S8x2048x1024, .f32⟩
  | 30 => ⟨S_, .f32⟩
  | 31 => ⟨S8x2048x1024, .f32⟩
  | 32 => ⟨S8x2048x1024, .f32⟩
  | 33 => ⟨S_, .f32⟩
  | 34 => ⟨S8x2048x1024, .f32⟩
  | 35 => ⟨S8x2048x1024, .f32⟩
  | 36 => ⟨S8x2048x1024, .f32⟩
  | 37 => ⟨S1024x1024, .f32⟩
  | 38 => ⟨S8x2048x1024, .f32⟩
  | 39 => ⟨S8x16x4x4x64x128, .f32⟩
  | 40 => ⟨S8x16x128x4x4x64, .f32⟩
  | 41 => ⟨S8x16x128x4x4, .f32⟩
  | 42 => ⟨S8x16x128x4x4x1, .f32⟩
  | 43 => ⟨S8x16x128x4x4x64, .f32⟩
  | 44 => ⟨S8x16x128x4x4x64, .f32⟩
  | 45 => ⟨S8x16x128x4x4x64, .f32⟩
  | 46 => ⟨S4x4x64, .f32⟩
  | 47 => ⟨S1x1x1x4x4x64, .f32⟩
  | 48 => ⟨S8x16x128x4x4x64, .f32⟩
  | 49 => ⟨S8x16x128x4x4x64, .f32⟩
  | 50 => ⟨S8x16x128x4x4x64, .f32⟩
  | 51 => ⟨S8x2048x1024, .f32⟩
  | 52 => ⟨S8x2048x1024, .f32⟩
  | 53 => ⟨S8x2048x1024, .f32⟩
  | 54 => ⟨S_, .f32⟩
  | 55 => ⟨S8x2048x1024, .f32⟩
  | 56 => ⟨S8x2048x1024, .f32⟩
  | 57 => ⟨S_, .f32⟩
  | 58 => ⟨S8x2048x1024, .f32⟩
  | 59 => ⟨S8x2048x1024, .f32⟩
  | 60 => ⟨S8x2048x1024, .f32⟩
  | 61 => ⟨S8x2048x1024, .f32⟩
  | 62 => ⟨S8x2048x4x256, .f32⟩
  | 63 => ⟨S4x256, .f32⟩
  | 64 => ⟨S8x2048x4x256, .f32⟩
  | 65 => ⟨S_, .f32⟩
  | 66 => ⟨S8x2048x4, .f32⟩
  | 67 => ⟨S8x2048x4x1, .f32⟩
  | 68 => ⟨S_, .f32⟩
  | 69 => ⟨S8x2048x4x1, .f32⟩
  | 70 => ⟨S8x2048x4x1, .f32⟩
  | 71 => ⟨S_, .f32⟩
  | 72 => ⟨S8x2048x4x1, .f32⟩
  | 73 => ⟨S8x2048x4x1, .f32⟩
  | 74 => ⟨S8x2048x4x1, .f32⟩
  | 75 => ⟨S8x2048x4x256, .f32⟩
  | 76 => ⟨S8x2048x4x256, .f32⟩
  | 77 => ⟨S1x1x4x256, .f32⟩
  | 78 => ⟨S8x2048x4x256, .f32⟩
  | 79 => ⟨S8x2048x4x256, .f32⟩
  | 80 => ⟨S8x2048x1024, .f32⟩
  | 81 => ⟨S1024x1024, .f32⟩
  | 82 => ⟨S8x2048x1024, .f32⟩
  | 83 => ⟨S8x2048x1024, .f32⟩
  | 84 => ⟨S8x2048x1024, .f32⟩
  | 85 => ⟨S_, .f32⟩
  | 86 => ⟨S8x2048x1024, .f32⟩
  | 87 => ⟨S8x2048x1024, .f32⟩
  | 88 => ⟨S_, .f32⟩
  | 89 => ⟨S8x2048x1024, .f32⟩
  | 90 => ⟨S8x2048x1024, .f32⟩
  | 91 => ⟨S8x2048x1024, .f32⟩
  | 92 => ⟨S8x2048x1024, .f32⟩
  | 93 => ⟨S8x2048x1024, .f32⟩
  | 94 => ⟨S_, .f32⟩
  | 95 => ⟨S8x2048x1024, .f32⟩
  | 96 => ⟨S8x2048x1024, .f32⟩
  | 97 => ⟨S_, .f32⟩
  | 98 => ⟨S8x2048x1024, .f32⟩
  | 99 => ⟨S8x2048x1024, .f32⟩
  | 100 => ⟨S8x2048x1024, .f32⟩
  | 101 => ⟨S8x2048x1024, .f32⟩
  | 102 => ⟨S1024x1024, .f32⟩
  | 103 => ⟨S8x2048x1024, .f32⟩
  | 104 => ⟨S16384x1024, .f32⟩
  | 105 => ⟨S16384x1024, .f32⟩
  | _ => ⟨S16384x8192, .bf16⟩

abbrev hbmTy (i : Nat) : BufTy := match i / 128 with
  | 0 => hbmTy0_0 i
  | 1 => hbmTy0_1 i
  | 2 => hbmTy0_2 i
  | 3 => hbmTy0_3 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_0 : Ref sig .tc := ⟨.hbm, 44, rfl⟩
abbrev main_call0_v5 : Ref sig .tc := ⟨.hbm, 45, rfl⟩
abbrev main_v19 : Ref sig .tc := ⟨.hbm, 46, rfl⟩
abbrev main_cst : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_0 : Ref sig .tc := ⟨.hbm, 51, rfl⟩
abbrev main_v23 : Ref sig .tc := ⟨.hbm, 52, rfl⟩
abbrev main_v24 : Ref sig .tc := ⟨.hbm, 53, rfl⟩
abbrev main_cst_1 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_2 : Ref sig .tc := ⟨.hbm, 58, rfl⟩
abbrev main_v28 : Ref sig .tc := ⟨.hbm, 59, rfl⟩
abbrev main_v29 : Ref sig .tc := ⟨.hbm, 60, rfl⟩
abbrev main_call1_v0 : Ref sig .tc := ⟨.hbm, 61, rfl⟩
abbrev main_call1_call0_cst : Ref sig .tc := ⟨.hbm, 62, rfl⟩
abbrev main_call1_call0_v0 : Ref sig .tc := ⟨.hbm, 63, rfl⟩
abbrev main_call1_call0_v1 : Ref sig .tc := ⟨.hbm, 64, rfl⟩
abbrev main_call1_call0_v2 : Ref sig .tc := ⟨.hbm, 65, rfl⟩
abbrev main_call1_call0_v3 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_v7 : Ref sig .tc := ⟨.hbm, 70, rfl⟩
abbrev main_call1_call0_v8 : Ref sig .tc := ⟨.hbm, 71, rfl⟩
abbrev main_call1_call0_v9 : Ref sig .tc := ⟨.hbm, 72, rfl⟩
abbrev main_call1_call0_v10 : Ref sig .tc := ⟨.hbm, 73, rfl⟩
abbrev main_call1_call0_v11 : Ref sig .tc := ⟨.hbm, 74, rfl⟩
abbrev main_call1_v1 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_call2_call0_cst : Ref sig .tc := ⟨.hbm, 84, rfl⟩
abbrev main_call2_call0_v0 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_3 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_4 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_5 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_call4_v0 : Ref sig .tc := ⟨.hbm, 156, rfl⟩
abbrev main_call4_v1 : Ref sig .tc := ⟨.hbm, 157, rfl⟩
abbrev main_call4_cst : Ref sig .tc := ⟨.hbm, 158, rfl⟩
abbrev main_call4_v2 : Ref sig .tc := ⟨.hbm, 159, rfl⟩
abbrev main_call4_v3 : Ref sig .tc := ⟨.hbm, 160, rfl⟩
abbrev main_call4_cst_0 : Ref sig .tc := ⟨.hbm, 161, rfl⟩
abbrev main_call4_v4 : Ref sig .tc := ⟨.hbm, 162, rfl⟩
abbrev main_call4_v5 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_call5_cst : Ref sig .tc := ⟨.hbm, 169, rfl⟩
abbrev main_call5_v0 : Ref sig .tc := ⟨.hbm, 170, rfl⟩
abbrev main_call5_v1 : Ref sig .tc := ⟨.hbm, 171, rfl⟩
abbrev main_call5_v2 : Ref sig .tc := ⟨.hbm, 172, rfl⟩
abbrev main_call5_v3 : Ref sig .tc := ⟨.hbm, 173, rfl⟩
abbrev main_call5_v4 : Ref sig .tc := ⟨.hbm, 174, rfl⟩
abbrev main_call5_v5 : Ref sig .tc := ⟨.hbm, 175, rfl⟩
abbrev main_call5_v6 : Ref sig .tc := ⟨.hbm, 176, rfl⟩
abbrev main_call5_v7 : Ref sig .tc := ⟨.hbm, 177, rfl⟩
abbrev main_call5_v8 : Ref sig .tc := ⟨.hbm, 178, rfl⟩
abbrev main_call5_v9 : Ref sig .tc := ⟨.hbm, 179, rfl⟩
abbrev main_call5_v10 : Ref sig .tc := ⟨.hbm, 180, rfl⟩
abbrev main_call5_v11 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_call6_call0_cst : Ref sig .tc := ⟨.hbm, 194, rfl⟩
abbrev main_call6_call0_v0 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_cst_6 : Ref sig .tc := ⟨.hbm, 204, rfl⟩
abbrev main_call7_v0 : Ref sig .tc := ⟨.hbm, 205, rfl⟩
abbrev main_call7_v1 : Ref sig .tc := ⟨.hbm, 206, rfl⟩
abbrev main_call7_v2 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_cst_7 : Ref sig .tc := ⟨.hbm, 248, rfl⟩
abbrev main_v167 : Ref sig .tc := ⟨.hbm, 249, rfl⟩
abbrev main_cst_8 : Ref sig .tc := ⟨.hbm, 250, rfl⟩
abbrev main_v168 : Ref sig .tc := ⟨.hbm, 251, rfl⟩
abbrev main_cst_9 : Ref sig .tc := ⟨.hbm, 252, rfl⟩
abbrev main_v169 : Ref sig .tc := ⟨.hbm, 253, rfl⟩
abbrev main_cst_10 : Ref sig .tc := ⟨.hbm, 254, rfl⟩
abbrev main_v170 : Ref sig .tc := ⟨.hbm, 255, rfl⟩
abbrev main_c_11 : Ref sig .tc := ⟨.hbm, 256, rfl⟩
abbrev main_v171_0 : Ref sig .tc := ⟨.hbm, 257, rfl⟩
abbrev main_v171_1 : Ref sig .tc := ⟨.hbm, 258, rfl⟩
abbrev main_v171_2 : Ref sig .tc := ⟨.hbm, 259, rfl⟩
abbrev main_v171_3 : Ref sig .tc := ⟨.hbm, 260, rfl⟩
abbrev main_v171_4 : Ref sig .tc := ⟨.hbm, 261, rfl⟩
abbrev main_v171_5 : Ref sig .tc := ⟨.hbm, 262, rfl⟩
abbrev main_v171_6 : Ref sig .tc := ⟨.hbm, 263, rfl⟩
abbrev main_v171_7 : Ref sig .tc := ⟨.hbm, 264, rfl⟩
abbrev main_v171_8 : Ref sig .tc := ⟨.hbm, 265, rfl⟩
abbrev main_v171_9 : Ref sig .tc := ⟨.hbm, 266, rfl⟩
abbrev main_v171_10 : Ref sig .tc := ⟨.hbm, 267, rfl⟩
abbrev main_v171_11 : Ref sig .tc := ⟨.hbm, 268, rfl⟩
abbrev main_v171_12 : Ref sig .tc := ⟨.hbm, 269, rfl⟩
abbrev main_v171_13 : Ref sig .tc := ⟨.hbm, 270, rfl⟩
abbrev main_v171_14 : Ref sig .tc := ⟨.hbm, 271, rfl⟩
abbrev main_while0c_c_40 : Ref sig .tc := ⟨.hbm, 272, rfl⟩
abbrev main_while0c_v286 : Ref sig .tc := ⟨.hbm, 273, rfl⟩
abbrev main_while0b_call8_c : Ref sig .tc := ⟨.hbm, 274, rfl⟩
abbrev main_while0b_call8_c_0 : Ref sig .tc := ⟨.hbm, 275, rfl⟩
abbrev main_while0b_call8_v0 : Ref sig .tc := ⟨.hbm, 276, rfl⟩
abbrev main_while0b_v286 : Ref sig .tc := ⟨.hbm, 277, rfl⟩
abbrev main_while0b_call9_c : Ref sig .tc := ⟨.hbm, 278, rfl⟩
abbrev main_while0b_call9_c_0 : Ref sig .tc := ⟨.hbm, 279, rfl⟩
abbrev main_while0b_call9_v0 : Ref sig .tc := ⟨.hbm, 280, rfl⟩
abbrev main_while0b_v287 : Ref sig .tc := ⟨.hbm, 281, rfl⟩
abbrev main_while0b_call10_c : Ref sig .tc := ⟨.hbm, 282, rfl⟩
abbrev main_while0b_call10_c_0 : Ref sig .tc := ⟨.hbm, 283, rfl⟩
abbrev main_while0b_call10_c_1 : Ref sig .tc := ⟨.hbm, 284, rfl⟩
abbrev main_while0b_call10_c_2 : Ref sig .tc := ⟨.hbm, 285, rfl⟩
abbrev main_while0b_call10_v0 : Ref sig .tc := ⟨.hbm, 286, rfl⟩
abbrev main_while0b_v288 : Ref sig .tc := ⟨.hbm, 287, rfl⟩
abbrev main_while0b_call11_c : Ref sig .tc := ⟨.hbm, 288, rfl⟩
abbrev main_while0b_call11_c_0 : Ref sig .tc := ⟨.hbm, 289, rfl⟩
abbrev main_while0b_call11_c_1 : Ref sig .tc := ⟨.hbm, 290, rfl⟩
abbrev main_while0b_call11_v0 : Ref sig .tc := ⟨.hbm, 291, rfl⟩
abbrev main_while0b_v289 : Ref sig .tc := ⟨.hbm, 292, rfl⟩
abbrev main_while0b_call12_c : Ref sig .tc := ⟨.hbm, 293, rfl⟩
abbrev main_while0b_call12_c_0 : Ref sig .tc := ⟨.hbm, 294, rfl⟩
abbrev main_while0b_call12_c_1 : Ref sig .tc := ⟨.hbm, 295, rfl⟩
abbrev main_while0b_call12_v0 : Ref sig .tc := ⟨.hbm, 296, rfl⟩
abbrev main_while0b_v290 : Ref sig .tc := ⟨.hbm, 297, rfl⟩
abbrev main_while0b_call13_c : Ref sig .tc := ⟨.hbm, 298, rfl⟩
abbrev main_while0b_call13_c_0 : Ref sig .tc := ⟨.hbm, 299, rfl⟩
abbrev main_while0b_call13_c_1 : Ref sig .tc := ⟨.hbm, 300, rfl⟩
abbrev main_while0b_call13_c_2 : Ref sig .tc := ⟨.hbm, 301, rfl⟩
abbrev main_while0b_call13_c_3 : Ref sig .tc := ⟨.hbm, 302, rfl⟩
abbrev main_while0b_call13_v0 : Ref sig .tc := ⟨.hbm, 303, rfl⟩
abbrev main_while0b_v291 : Ref sig .tc := ⟨.hbm, 304, rfl⟩
abbrev main_while0b_v292 : Ref sig .tc := ⟨.hbm, 305, rfl⟩
abbrev main_while0b_v293 : Ref sig .tc := ⟨.hbm, 306, rfl⟩
abbrev main_while0b_v294 : Ref sig .tc := ⟨.hbm, 307, rfl⟩
abbrev main_while0b_v295 : Ref sig .tc := ⟨.hbm, 308, rfl⟩
abbrev main_while0b_v296 : Ref sig .tc := ⟨.hbm, 309, rfl⟩
abbrev main_while0b_v297 : Ref sig .tc := ⟨.hbm, 310, rfl⟩
abbrev main_while0b_v298 : Ref sig .tc := ⟨.hbm, 311, rfl⟩
abbrev main_while0b_v299 : Ref sig .tc := ⟨.hbm, 312, rfl⟩
abbrev main_while0b_v300 : Ref sig .tc := ⟨.hbm, 313, rfl⟩
abbrev main_while0b_v301 : Ref sig .tc := ⟨.hbm, 314, rfl⟩
abbrev main_while0b_v302 : Ref sig .tc := ⟨.hbm, 315, rfl⟩
abbrev main_while0b_v303 : Ref sig .tc := ⟨.hbm, 316, rfl⟩
abbrev main_while0b_v304 : Ref sig .tc := ⟨.hbm, 317, rfl⟩
abbrev main_while0b_v305 : Ref sig .tc := ⟨.hbm, 318, rfl⟩
abbrev main_while0b_v306 : Ref sig .tc := ⟨.hbm, 319, rfl⟩
abbrev main_while0b_v307 : Ref sig .tc := ⟨.hbm, 320, rfl⟩
abbrev main_while0b_v308 : Ref sig .tc := ⟨.hbm, 321, rfl⟩
abbrev main_while0b_v309 : Ref sig .tc := ⟨.hbm, 322, rfl⟩
abbrev main_while0b_v310 : Ref sig .tc := ⟨.hbm, 323, rfl⟩
abbrev main_while0b_v311 : Ref sig .tc := ⟨.hbm, 324, rfl⟩
abbrev main_while0b_v312 : Ref sig .tc := ⟨.hbm, 325, rfl⟩
abbrev main_while0b_v313 : Ref sig .tc := ⟨.hbm, 326, rfl⟩
abbrev main_while0b_v314 : Ref sig .tc := ⟨.hbm, 327, rfl⟩
abbrev main_while0b_v315 : Ref sig .tc := ⟨.hbm, 328, rfl⟩
abbrev main_while0b_v316 : Ref sig .tc := ⟨.hbm, 329, rfl⟩
abbrev main_while0b_call14_v0 : Ref sig .tc := ⟨.hbm, 330, rfl⟩
abbrev main_while0b_call14_c : Ref sig .tc := ⟨.hbm, 331, rfl⟩
abbrev main_while0b_call14_c_0 : Ref sig .tc := ⟨.hbm, 332, rfl⟩
abbrev main_while0b_call14_c_1 : Ref sig .tc := ⟨.hbm, 333, rfl⟩
abbrev main_while0b_call14_c_2 : Ref sig .tc := ⟨.hbm, 334, rfl⟩
abbrev main_while0b_v317 : Ref sig .tc := ⟨.hbm, 335, rfl⟩
abbrev main_while0b_call15_v0 : Ref sig .tc := ⟨.hbm, 336, rfl⟩
abbrev main_while0b_call15_c : Ref sig .tc := ⟨.hbm, 337, rfl⟩
abbrev main_while0b_call15_c_0 : Ref sig .tc := ⟨.hbm, 338, rfl⟩
abbrev main_while0b_call15_c_1 : Ref sig .tc := ⟨.hbm, 339, rfl⟩
abbrev main_while0b_v318 : Ref sig .tc := ⟨.hbm, 340, rfl⟩
abbrev main_while0b_call16_v0 : Ref sig .tc := ⟨.hbm, 341, rfl⟩
abbrev main_while0b_call16_c : Ref sig .tc := ⟨.hbm, 342, rfl⟩
abbrev main_while0b_call16_c_0 : Ref sig .tc := ⟨.hbm, 343, rfl⟩
abbrev main_while0b_v319 : Ref sig .tc := ⟨.hbm, 344, rfl⟩
abbrev main_while0b_call17_v0 : Ref sig .tc := ⟨.hbm, 345, rfl⟩
abbrev main_while0b_call17_c : Ref sig .tc := ⟨.hbm, 346, rfl⟩
abbrev main_while0b_call17_c_0 : Ref sig .tc := ⟨.hbm, 347, rfl⟩
abbrev main_while0b_call17_c_1 : Ref sig .tc := ⟨.hbm, 348, rfl⟩
abbrev main_while0b_call17_c_2 : Ref sig .tc := ⟨.hbm, 349, rfl⟩
abbrev main_while0b_call17_c_3 : Ref sig .tc := ⟨.hbm, 350, rfl⟩
abbrev main_while0b_v320 : Ref sig .tc := ⟨.hbm, 351, rfl⟩
abbrev main_while0b_c_40 : Ref sig .tc := ⟨.hbm, 352, rfl⟩
abbrev main_while0b_v321 : Ref sig .tc := ⟨.hbm, 353, rfl⟩
abbrev main_v172 : Ref sig .tc := ⟨.hbm, 354, rfl⟩
abbrev main_v173 : Ref sig .tc := ⟨.hbm, 355, rfl⟩
abbrev main_v174 : Ref sig .tc := ⟨.hbm, 356, rfl⟩
abbrev main_v175 : Ref sig .tc := ⟨.hbm, 357, rfl⟩
abbrev main_v176 : Ref sig .tc := ⟨.hbm, 358, rfl⟩
abbrev main_v177 : Ref sig .tc := ⟨.hbm, 359, rfl⟩
abbrev main_v178 : Ref sig .tc := ⟨.hbm, 360, rfl⟩
abbrev main_cst_12 : Ref sig .tc := ⟨.hbm, 361, rfl⟩
abbrev main_v179 : Ref sig .tc := ⟨.hbm, 362, rfl⟩
abbrev main_v180 : Ref sig .tc := ⟨.hbm, 363, rfl⟩
abbrev main_v181 : Ref sig .tc := ⟨.hbm, 364, rfl⟩
abbrev main_v182 : Ref sig .tc := ⟨.hbm, 365, rfl⟩
abbrev main_v183 : Ref sig .tc := ⟨.hbm, 366, rfl⟩
abbrev main_v184 : Ref sig .tc := ⟨.hbm, 367, rfl⟩
abbrev main_v185 : Ref sig .tc := ⟨.hbm, 368, rfl⟩
abbrev main_v186 : Ref sig .tc := ⟨.hbm, 369, rfl⟩
abbrev main_v187 : Ref sig .tc := ⟨.hbm, 370, rfl⟩
abbrev main_v188 : Ref sig .tc := ⟨.hbm, 371, rfl⟩
abbrev main_v189 : Ref sig .tc := ⟨.hbm, 372, rfl⟩
abbrev main_v190 : Ref sig .tc := ⟨.hbm, 373, rfl⟩
abbrev main_v191 : Ref sig .tc := ⟨.hbm, 374, rfl⟩
abbrev main_v192 : Ref sig .tc := ⟨.hbm, 375, rfl⟩
abbrev main_v193 : Ref sig .tc := ⟨.hbm, 376, rfl⟩
abbrev main_v194 : Ref sig .tc := ⟨.hbm, 377, rfl⟩
abbrev main_v195 : Ref sig .tc := ⟨.hbm, 378, rfl⟩
abbrev main_v196 : Ref sig .tc := ⟨.hbm, 379, rfl⟩
abbrev main_v197 : Ref sig .tc := ⟨.hbm, 380, rfl⟩
abbrev main_cst_13 : Ref sig .tc := ⟨.hbm, 381, rfl⟩
abbrev main_v198 : Ref sig .tc := ⟨.hbm, 382, rfl⟩
abbrev main_v199 : Ref sig .tc := ⟨.hbm, 383, rfl⟩
abbrev main_v200 : Ref sig .tc := ⟨.hbm, 384, rfl⟩
abbrev main_v201 : Ref sig .tc := ⟨.hbm, 385, rfl⟩
abbrev main_v202 : Ref sig .tc := ⟨.hbm, 386, rfl⟩
abbrev main_v203 : Ref sig .tc := ⟨.hbm, 387, rfl⟩
abbrev main_v204 : Ref sig .tc := ⟨.hbm, 388, rfl⟩
abbrev main_v205 : Ref sig .tc := ⟨.hbm, 389, rfl⟩
abbrev main_v206 : Ref sig .tc := ⟨.hbm, 390, rfl⟩
abbrev main_v207 : Ref sig .tc := ⟨.hbm, 391, rfl⟩
abbrev main_v208 : Ref sig .tc := ⟨.hbm, 392, rfl⟩
abbrev main_v209 : Ref sig .tc := ⟨.hbm, 393, rfl⟩
abbrev main_v210 : Ref sig .tc := ⟨.hbm, 394, rfl⟩
abbrev main_v211 : Ref sig .tc := ⟨.hbm, 395, rfl⟩
abbrev main_cst_14 : Ref sig .tc := ⟨.hbm, 396, rfl⟩
abbrev main_v212 : Ref sig .tc := ⟨.hbm, 397, rfl⟩
abbrev main_v213 : Ref sig .tc := ⟨.hbm, 398, rfl⟩
abbrev main_cst_15 : Ref sig .tc := ⟨.hbm, 399, rfl⟩
abbrev main_v214 : Ref sig .tc := ⟨.hbm, 400, rfl⟩
abbrev main_v215 : Ref sig .tc := ⟨.hbm, 401, rfl⟩
abbrev main_cst_16 : Ref sig .tc := ⟨.hbm, 402, rfl⟩
abbrev main_v216 : Ref sig .tc := ⟨.hbm, 403, rfl⟩
abbrev main_v217 : Ref sig .tc := ⟨.hbm, 404, rfl⟩
abbrev main_v218 : Ref sig .tc := ⟨.hbm, 405, rfl⟩
abbrev main_v219 : Ref sig .tc := ⟨.hbm, 406, rfl⟩
abbrev main_v220 : Ref sig .tc := ⟨.hbm, 407, rfl⟩
abbrev main_v221 : Ref sig .tc := ⟨.hbm, 408, rfl⟩
abbrev main_v222 : Ref sig .tc := ⟨.hbm, 409, rfl⟩
abbrev main_v223 : Ref sig .tc := ⟨.hbm, 410, rfl⟩
abbrev main_v224 : Ref sig .tc := ⟨.hbm, 411, rfl⟩
abbrev main_v225 : Ref sig .tc := ⟨.hbm, 412, rfl⟩
abbrev main_v226 : Ref sig .tc := ⟨.hbm, 413, rfl⟩
abbrev main_cst_17 : Ref sig .tc := ⟨.hbm, 414, rfl⟩
abbrev main_v227 : Ref sig .tc := ⟨.hbm, 415, rfl⟩
abbrev main_v228 : Ref sig .tc := ⟨.hbm, 416, rfl⟩
abbrev main_cst_18 : Ref sig .tc := ⟨.hbm, 417, rfl⟩
abbrev main_v229 : Ref sig .tc := ⟨.hbm, 418, rfl⟩
abbrev main_v230 : Ref sig .tc := ⟨.hbm, 419, rfl⟩
abbrev main_v231 : Ref sig .tc := ⟨.hbm, 420, rfl⟩
abbrev main_v232 : Ref sig .tc := ⟨.hbm, 421, rfl⟩
abbrev main_v233 : Ref sig .tc := ⟨.hbm, 422, rfl⟩
abbrev main_v234 : Ref sig .tc := ⟨.hbm, 423, rfl⟩
abbrev main_v235 : Ref sig .tc := ⟨.hbm, 424, rfl⟩
abbrev main_v236 : Ref sig .tc := ⟨.hbm, 425, rfl⟩
abbrev main_v237 : Ref sig .tc := ⟨.hbm, 426, rfl⟩
abbrev main_v238 : Ref sig .tc := ⟨.hbm, 427, rfl⟩
abbrev main_v239 : Ref sig .tc := ⟨.hbm, 428, rfl⟩
abbrev main_v240 : Ref sig .tc := ⟨.hbm, 429, rfl⟩
abbrev main_v241 : Ref sig .tc := ⟨.hbm, 430, rfl⟩
abbrev main_v242 : Ref sig .tc := ⟨.hbm, 431, rfl⟩
abbrev main_v243 : Ref sig .tc := ⟨.hbm, 432, rfl⟩
abbrev main_v244 : Ref sig .tc := ⟨.hbm, 433, rfl⟩
abbrev main_v245 : Ref sig .tc := ⟨.hbm, 434, rfl⟩
abbrev main_v246 : Ref sig .tc := ⟨.hbm, 435, rfl⟩
abbrev main_call18_v0 : Ref sig .tc := ⟨.hbm, 436, rfl⟩
abbrev main_call18_v1 : Ref sig .tc := ⟨.hbm, 437, rfl⟩
abbrev main_call18_cst : Ref sig .tc := ⟨.hbm, 438, rfl⟩
abbrev main_call18_v2 : Ref sig .tc := ⟨.hbm, 439, rfl⟩
abbrev main_call18_v3 : Ref sig .tc := ⟨.hbm, 440, rfl⟩
abbrev main_call18_cst_0 : Ref sig .tc := ⟨.hbm, 441, rfl⟩
abbrev main_call18_v4 : Ref sig .tc := ⟨.hbm, 442, rfl⟩
abbrev main_call18_v5 : Ref sig .tc := ⟨.hbm, 443, rfl⟩
abbrev main_v247 : Ref sig .tc := ⟨.hbm, 444, rfl⟩
abbrev main_v248 : Ref sig .tc := ⟨.hbm, 445, rfl⟩
abbrev main_v249 : Ref sig .tc := ⟨.hbm, 446, rfl⟩
abbrev main_v250 : Ref sig .tc := ⟨.hbm, 447, rfl⟩
abbrev main_v251 : Ref sig .tc := ⟨.hbm, 448, rfl⟩
abbrev main_cst_19 : Ref sig .tc := ⟨.hbm, 449, rfl⟩
abbrev main_v252 : Ref sig .tc := ⟨.hbm, 450, rfl⟩
abbrev main_v253 : Ref sig .tc := ⟨.hbm, 451, rfl⟩
abbrev main_cst_20 : Ref sig .tc := ⟨.hbm, 452, rfl⟩
abbrev main_v254 : Ref sig .tc := ⟨.hbm, 453, rfl⟩
abbrev main_v255 : Ref sig .tc := ⟨.hbm, 454, rfl⟩
abbrev main_cst_21 : Ref sig .tc := ⟨.hbm, 455, rfl⟩
abbrev main_v256 : Ref sig .tc := ⟨.hbm, 456, rfl⟩
abbrev main_v257 : Ref sig .tc := ⟨.hbm, 457, rfl⟩
abbrev main_v258 : Ref sig .tc := ⟨.hbm, 458, rfl⟩
abbrev main_v259 : Ref sig .tc := ⟨.hbm, 459, rfl⟩
abbrev main_v260 : Ref sig .tc := ⟨.hbm, 460, rfl⟩
abbrev main_v261 : Ref sig .tc := ⟨.hbm, 461, rfl⟩
abbrev main_v262 : Ref sig .tc := ⟨.hbm, 462, rfl⟩
abbrev main_v263 : Ref sig .tc := ⟨.hbm, 463, rfl⟩
abbrev main_v264 : Ref sig .tc := ⟨.hbm, 464, rfl⟩
abbrev main_v265 : Ref sig .tc := ⟨.hbm, 465, rfl⟩
abbrev main_v266 : Ref sig .tc := ⟨.hbm, 466, rfl⟩
abbrev main_v267 : Ref sig .tc := ⟨.hbm, 467, rfl⟩
abbrev main_v268 : Ref sig .tc := ⟨.hbm, 468, rfl⟩
abbrev main_cst_22 : Ref sig .tc := ⟨.hbm, 469, rfl⟩
abbrev main_v269 : Ref sig .tc := ⟨.hbm, 470, rfl⟩
abbrev main_v270 : Ref sig .tc := ⟨.hbm, 471, rfl⟩
abbrev main_cst_23 : Ref sig .tc := ⟨.hbm, 472, rfl⟩
abbrev main_v271 : Ref sig .tc := ⟨.hbm, 473, rfl⟩
abbrev main_v272 : Ref sig .tc := ⟨.hbm, 474, rfl⟩
abbrev main_v273 : Ref sig .tc := ⟨.hbm, 475, rfl⟩
abbrev main_v274 : Ref sig .tc := ⟨.hbm, 476, rfl⟩
abbrev main_v275 : Ref sig .tc := ⟨.hbm, 477, rfl⟩
abbrev main_cst_24 : Ref sig .tc := ⟨.hbm, 478, rfl⟩
abbrev main_v276 : Ref sig .tc := ⟨.hbm, 479, rfl⟩
abbrev main_v277 : Ref sig .tc := ⟨.hbm, 480, rfl⟩
abbrev main_cst_25 : Ref sig .tc := ⟨.hbm, 481, rfl⟩
abbrev main_v278 : Ref sig .tc := ⟨.hbm, 482, rfl⟩
abbrev main_v279 : Ref sig .tc := ⟨.hbm, 483, rfl⟩
abbrev main_v280 : Ref sig .tc := ⟨.hbm, 484, rfl⟩
abbrev main_v281 : Ref sig .tc := ⟨.hbm, 485, rfl⟩
abbrev main_v282 : Ref sig .tc := ⟨.hbm, 486, rfl⟩
abbrev main_v283 : Ref sig .tc := ⟨.hbm, 487, rfl⟩
abbrev main_v284 : Ref sig .tc := ⟨.hbm, 488, rfl⟩
abbrev main_v285 : Ref sig .tc := ⟨.hbm, 489, rfl⟩

abbrev nD : Nat := 1
abbrev τ : Topo := Topo.v7x

variable {F : FTy → Type} [FloatOps F]

abbrev main_while0_count : Scf.Loop 32 := ⟨0#32, 16#32, 1#32⟩
-- ==== Init.lean ====
abbrev S128x8192 : Shape := ⟨2, ![128, 8192]⟩
abbrev S128x128 : Shape := ⟨2, ![128, 128]⟩
abbrev S1x128 : Shape := ⟨2, ![1, 128]⟩
abbrev S1x1024 : Shape := ⟨2, ![1, 1024]⟩
abbrev S8x2048 : Shape := ⟨2, ![8, 2048]⟩
abbrev S1x2048 : Shape := ⟨2, ![1, 2048]⟩
abbrev S4x128x256 : Shape := ⟨3, ![4, 128, 256]⟩
abbrev S8x128 : Shape := ⟨2, ![8, 128]⟩
abbrev S128x2048 : Shape := ⟨2, ![128, 2048]⟩
abbrev S128x256 : Shape := ⟨2, ![128, 256]⟩
abbrev S128x1 : Shape := ⟨2, ![128, 1]⟩
abbrev S1x1 : Shape := ⟨2, ![1, 1]⟩
abbrev S1 : Shape := ⟨1, ![1]⟩
abbrev S128 : Shape := ⟨1, ![128]⟩
abbrev S1x128x256 : Shape := ⟨3, ![1, 128, 256]⟩
abbrev S8x256 : Shape := ⟨2, ![8, 256]⟩
abbrev S1x256 : Shape := ⟨2, ![1, 256]⟩
abbrev S120x256 : Shape := ⟨2, ![120, 256]⟩

abbrev nBuf : Space → Nat
  | .hbm => 14
  | .vmem => 15
  | .smem => 0
  | _ => 0

abbrev bufTy : (tb : Table) → Fin (tcTables nBuf tb) → BufTy
  | .hbm, ⟨0, _⟩ => ⟨S128x8192, .bf16⟩
  | .hbm, ⟨1, _⟩ => ⟨S128x128, .f32⟩
  | .hbm, ⟨2, _⟩ => ⟨S1x128, .f32⟩
  | .hbm, ⟨3, _⟩ => ⟨S1x128, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8x2048, .f32⟩
  | .hbm, ⟨8, _⟩ => ⟨S1x2048, .f32⟩
  | .hbm, ⟨9, _⟩ => ⟨S4x128x256, .f32⟩
  | .hbm, ⟨10, _⟩ => ⟨S8x128, .f32⟩
  | .hbm, ⟨11, _⟩ => ⟨S8x128, .f32⟩
  | .hbm, ⟨12, _⟩ => ⟨S4x128x256, .f32⟩
  | .hbm, ⟨13, _⟩ => ⟨S8x2048, .f32⟩
  | .local _ .vmem, ⟨0, _⟩ => ⟨S128x8192, .bf16⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S8x2048, .f32⟩
  | .local _ .vmem, ⟨8, _⟩ => ⟨S1x2048, .f32⟩
  | .local _ .vmem, ⟨9, _⟩ => ⟨S4x128x256, .f32⟩
  | .local _ .vmem, ⟨10, _⟩ => ⟨S8x128, .f32⟩
  | .local _ .vmem, ⟨11, _⟩ => ⟨S8x128, .f32⟩
  | .local _ .vmem, ⟨12, _⟩ => ⟨S4x128x256, .f32⟩
  | .local _ .vmem, ⟨13, _⟩ => ⟨S8x2048, .f32⟩
  | .local _ .vmem, ⟨14, _⟩ => ⟨S128x2048, .f32⟩
  | _, _ => ⟨S128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InitRefIdeal.lean ====
abbrev S128x8192 : Shape := ⟨2, ![128, 8192]⟩
abbrev S128x128 : Shape := ⟨2, ![128, 128]⟩
abbrev S1x128 : Shape := ⟨2, ![1, 128]⟩
abbrev S1x1024 : Shape := ⟨2, ![1, 1024]⟩
abbrev S8x2048 : Shape := ⟨2, ![8, 2048]⟩
abbrev S1x2048 : Shape := ⟨2, ![1, 2048]⟩
abbrev S128x512 : Shape := ⟨2, ![128, 512]⟩
abbrev S128x1024 : Shape := ⟨2, ![128, 1024]⟩
abbrev S128x2048 : Shape := ⟨2, ![128, 2048]⟩
abbrev S128 : Shape := ⟨1, ![128]⟩
abbrev S128x4 : Shape := ⟨2, ![128, 4]⟩
abbrev S128x16 : Shape := ⟨2, ![128, 16]⟩
abbrev S_ : Shape := ⟨0, ![]⟩
abbrev S128x1 : Shape := ⟨2, ![128, 1]⟩
abbrev S128x4x128 : Shape := ⟨3, ![128, 4, 128]⟩
abbrev S128x4x256 : Shape := ⟨3, ![128, 4, 256]⟩
abbrev S4x128 : Shape := ⟨2, ![4, 128]⟩
abbrev S4x1 : Shape := ⟨2, ![4, 1]⟩
abbrev S4 : Shape := ⟨1, ![4]⟩
abbrev S128x4x1 : Shape := ⟨3, ![128, 4, 1]⟩
abbrev S4x256x128 : Shape := ⟨3, ![4, 256, 128]⟩
abbrev S4x1x1 : Shape := ⟨3, ![4, 1, 1]⟩
abbrev S131x2048 : Shape := ⟨2, ![131, 2048]⟩
abbrev S2048 : Shape := ⟨1, ![2048]⟩
abbrev S128x4x4x64 : Shape := ⟨4, ![128, 4, 4, 64]⟩
abbrev S128x4x4 : Shape := ⟨3, ![128, 4, 4]⟩
abbrev S1x16 : Shape := ⟨2, ![1, 16]⟩
abbrev S16 : Shape := ⟨1, ![16]⟩
abbrev S4x4 : Shape := ⟨2, ![4, 4]⟩
abbrev S1x4x4 : Shape := ⟨3, ![1, 4, 4]⟩
abbrev S4x4x128 : Shape := ⟨3, ![4, 4, 128]⟩
abbrev S4x4x1 : Shape := ⟨3, ![4, 4, 1]⟩
abbrev S128x4x4x1 : Shape := ⟨4, ![128, 4, 4, 1]⟩
abbrev S4x4x64x128 : Shape := ⟨4, ![4, 4, 64, 128]⟩
abbrev S4x4x1x1 : Shape := ⟨4, ![4, 4, 1, 1]⟩
abbrev S4x128x256 : Shape := ⟨3, ![4, 128, 256]⟩
abbrev S8x128 : Shape := ⟨2, ![8, 128]⟩
abbrev S4x128x4x64 : Shape := ⟨4, ![4, 128, 4, 64]⟩

abbrev nBuf : Space → Nat
  | .hbm => 240
  | .vmem => 0
  | .smem => 0
  | _ => 0

abbrev hbmTy0_0 (i : Nat) : BufTy := match i % 128 with
  | 0 => ⟨S128x8192, .bf16⟩
  | 1 => ⟨S128x128, .f32⟩
  | 2 => ⟨S1x128, .f32⟩
  | 3 => ⟨S1x128, .f32⟩
  | 4 => ⟨S1x1024, .f32⟩
  | 5 => ⟨S1x1024, .f32⟩
  | 6 => ⟨S1x1024, .f32⟩
  | 7 => ⟨S8x2048, .f32⟩
  | 8 => ⟨S1x2048, .f32⟩
  | 9 => ⟨S128x8192, .f32⟩
  | 10 => ⟨S128x512, .f32⟩
  | 11 => ⟨S128x512, .f32⟩
  | 12 => ⟨S128x1024, .f32⟩
  | 13 => ⟨S128x1024, .f32⟩
  | 14 => ⟨S128x1024, .f32⟩
  | 15 => ⟨S128x2048, .f32⟩
  | 16 => ⟨S128x1024, .f32⟩
  | 17 => ⟨S128x1024, .f32⟩
  | 18 => ⟨S128, .f32⟩
  | 19 => ⟨S1x128, .f32⟩
  | 20 => ⟨S128x128, .f32⟩
  | 21 => ⟨S128x128, .f32⟩
  | 22 => ⟨S128x4, .f32⟩
  | 23 => ⟨S128x4, .f32⟩
  | 24 => ⟨S128x16, .f32⟩
  | 25 => ⟨S128, .i32⟩
  | 26 => ⟨S_, .i32⟩
  | 27 => ⟨S128, .i32⟩
  | 28 => ⟨S128, .i1⟩
  | 29 => ⟨S128x1, .i1⟩
  | 30 => ⟨S_, .f32⟩
  | 31 => ⟨S128x4, .f32⟩
  | 32 => ⟨S128x4, .f32⟩
  | 33 => ⟨S128x4, .f32⟩
  | 34 => ⟨S_, .f32⟩
  | 35 => ⟨S128x4, .f32⟩
  | 36 => ⟨S128x4, .f32⟩
  | 37 => ⟨S_, .f32⟩
  | 38 => ⟨S_, .f32⟩
  | 39 => ⟨S128x4, .i1⟩
  | 40 => ⟨S128x4, .f32⟩
  | 41 => ⟨S128x4, .f32⟩
  | 42 => ⟨S_, .f32⟩
  | 43 => ⟨S128x4, .f32⟩
  | 44 => ⟨S128x4, .f32⟩
  | 45 => ⟨S128x4, .f32⟩
  | 46 => ⟨S_, .f32⟩
  | 47 => ⟨S128x4, .f32⟩
  | 48 => ⟨S128x4, .f32⟩
  | 49 => ⟨S128x4, .f32⟩
  | 50 => ⟨S_, .f32⟩
  | 51 => ⟨S128x4, .f32⟩
  | 52 => ⟨S128x4, .f32⟩
  | 53 => ⟨S128x4, .f32⟩
  | 54 => ⟨S128x4, .f32⟩
  | 55 => ⟨S128x4, .i1⟩
  | 56 => ⟨S128x4, .f32⟩
  | 57 => ⟨S128x4, .f32⟩
  | 58 => ⟨S128x4, .f32⟩
  | 59 => ⟨S128x4, .f32⟩
  | 60 => ⟨S128x4, .f32⟩
  | 61 => ⟨S128x4, .f32⟩
  | 62 => ⟨S128x4, .f32⟩
  | 63 => ⟨S128x4, .f32⟩
  | 64 => ⟨S128x4, .f32⟩
  | 65 => ⟨S_, .f32⟩
  | 66 => ⟨S_, .f32⟩
  | 67 => ⟨S128x4, .i1⟩
  | 68 => ⟨S128x4, .f32⟩
  | 69 => ⟨S128x4, .f32⟩
  | 70 => ⟨S128x4x128, .f32⟩
  | 71 => ⟨S128x4x256, .f32⟩
  | 72 => ⟨S4x128, .f32⟩
  | 73 => ⟨S4x128, .f32⟩
  | 74 => ⟨S_, .f32⟩
  | 75 => ⟨S_, .f32⟩
  | 76 => ⟨S4x128, .f32⟩
  | 77 => ⟨S4x1, .f32⟩
  | 78 => ⟨S4, .f32⟩
  | 79 => ⟨S4x1, .f32⟩
  | 80 => ⟨S4x128, .f32⟩
  | 81 => ⟨S4x128, .f32⟩
  | 82 => ⟨S4x128, .f32⟩
  | 83 => ⟨S_, .f32⟩
  | 84 => ⟨S4, .f32⟩
  | 85 => ⟨S4x1, .f32⟩
  | 86 => ⟨S4x128, .f32⟩
  | 87 => ⟨S4x128, .f32⟩
  | 88 => ⟨S4x128, .f32⟩
  | 89 => ⟨S128x4, .f32⟩
  | 90 => ⟨S128x4x1, .f32⟩
  | 91 => ⟨S128x4x256, .f32⟩
  | 92 => ⟨S128x4x256, .f32⟩
  | 93 => ⟨S4x256x128, .f32⟩
  | 94 => ⟨S4x128, .f32⟩
  | 95 => ⟨S_, .f32⟩
  | 96 => ⟨S4x256x128, .f32⟩
  | 97 => ⟨S_, .f32⟩
  | 98 => ⟨S4x128, .f32⟩
  | 99 => ⟨S_, .f32⟩
  | 100 => ⟨S4, .f32⟩
  | 101 => ⟨S4, .f32⟩
  | 102 => ⟨S4, .f32⟩
  | 103 => ⟨S4, .f32⟩
  | 104 => ⟨S4, .f32⟩
  | 105 => ⟨S4, .f32⟩
  | 106 => ⟨S4, .f32⟩
  | 107 => ⟨S4, .f32⟩
  | 108 => ⟨S4x1x1, .f32⟩
  | 109 => ⟨S4x256x128, .f32⟩
  | 110 => ⟨S4x256x128, .f32⟩
  | 111 => ⟨S4x1x1, .f32⟩
  | 112 => ⟨S4x256x128, .f32⟩
  | 113 => ⟨S4x256x128, .f32⟩
  | 114 => ⟨S4x256x128, .f32⟩
  | 115 => ⟨S4x1, .f32⟩
  | 116 => ⟨S4x128, .f32⟩
  | 117 => ⟨S4x128, .f32⟩
  | 118 => ⟨S4x1, .f32⟩
  | 119 => ⟨S4x128, .f32⟩
  | 120 => ⟨S4x128, .f32⟩
  | 121 => ⟨S4x128, .f32⟩
  | 122 => ⟨S128x1, .f32⟩
  | 123 => ⟨S128x2048, .f32⟩
  | 124 => ⟨S128x2048, .f32⟩
  | 125 => ⟨S_, .i32⟩
  | 126 => ⟨S_, .f32⟩
  | 127 => ⟨S131x2048, .f32⟩
  | _ => ⟨S128x8192, .bf16⟩

abbrev hbmTy0_1 (i : Nat) : BufTy := match i % 128 with
  | 0 => ⟨S2048, .f32⟩
  | 1 => ⟨S128x2048, .f32⟩
  | 2 => ⟨S1x2048, .f32⟩
  | 3 => ⟨S2048, .f32⟩
  | 4 => ⟨S1x2048, .f32⟩
  | 5 => ⟨S128x2048, .f32⟩
  | 6 => ⟨S128x2048, .f32⟩
  | 7 => ⟨S_, .f32⟩
  | 8 => ⟨S128x2048, .f32⟩
  | 9 => ⟨S128x2048, .f32⟩
  | 10 => ⟨S128x2048, .f32⟩
  | 11 => ⟨S1x2048, .f32⟩
  | 12 => ⟨S2048, .f32⟩
  | 13 => ⟨S1x2048, .f32⟩
  | 14 => ⟨S128x2048, .f32⟩
  | 15 => ⟨S128x2048, .f32⟩
  | 16 => ⟨S128x2048, .f32⟩
  | 17 => ⟨S128x2048, .f32⟩
  | 18 => ⟨S1x2048, .f32⟩
  | 19 => ⟨S2048, .f32⟩
  | 20 => ⟨S1x2048, .f32⟩
  | 21 => ⟨S128x2048, .f32⟩
  | 22 => ⟨S128x2048, .f32⟩
  | 23 => ⟨S128x2048, .f32⟩
  | 24 => ⟨S128x2048, .f32⟩
  | 25 => ⟨S1x2048, .f32⟩
  | 26 => ⟨S2048, .f32⟩
  | 27 => ⟨S1x2048, .f32⟩
  | 28 => ⟨S128x2048, .f32⟩
  | 29 => ⟨S128x2048, .f32⟩
  | 30 => ⟨S128x2048, .f32⟩
  | 31 => ⟨S1x2048, .f32⟩
  | 32 => ⟨S128x2048, .f32⟩
  | 33 => ⟨S128x2048, .f32⟩
  | 34 => ⟨S128x2048, .f32⟩
  | 35 => ⟨S128x2048, .f32⟩
  | 36 => ⟨S_, .f32⟩
  | 37 => ⟨S128x2048, .f32⟩
  | 38 => ⟨S128x2048, .f32⟩
  | 39 => ⟨S_, .f32⟩
  | 40 => ⟨S128x2048, .f32⟩
  | 41 => ⟨S128x2048, .f32⟩
  | 42 => ⟨S128x2048, .f32⟩
  | 43 => ⟨S128x1024, .f32⟩
  | 44 => ⟨S128x512, .f32⟩
  | 45 => ⟨S128x512, .f32⟩
  | 46 => ⟨S128x4x4x64, .f32⟩
  | 47 => ⟨S_, .f32⟩
  | 48 => ⟨S128x16, .f32⟩
  | 49 => ⟨S128x16, .f32⟩
  | 50 => ⟨S128x16, .f32⟩
  | 51 => ⟨S128x16, .f32⟩
  | 52 => ⟨S128x16, .i1⟩
  | 53 => ⟨S128x16, .f32⟩
  | 54 => ⟨S128x16, .f32⟩
  | 55 => ⟨S128x16, .f32⟩
  | 56 => ⟨S128x16, .f32⟩
  | 57 => ⟨S128x16, .f32⟩
  | 58 => ⟨S128x16, .f32⟩
  | 59 => ⟨S128x16, .f32⟩
  | 60 => ⟨S128x16, .f32⟩
  | 61 => ⟨S_, .f32⟩
  | 62 => ⟨S_, .f32⟩
  | 63 => ⟨S128x16, .i1⟩
  | 64 => ⟨S128x16, .f32⟩
  | 65 => ⟨S128x16, .f32⟩
  | 66 => ⟨S128x4x4, .f32⟩
  | 67 => ⟨S1x16, .f32⟩
  | 68 => ⟨S16, .f32⟩
  | 69 => ⟨S16, .f32⟩
  | 70 => ⟨S4x4, .f32⟩
  | 71 => ⟨S4x4, .f32⟩
  | 72 => ⟨S128x4x128, .f32⟩
  | 73 => ⟨S1x4x4, .f32⟩
  | 74 => ⟨S128x4x4, .f32⟩
  | 75 => ⟨S128x4x4, .f32⟩
  | 76 => ⟨S_, .f32⟩
  | 77 => ⟨S_, .f32⟩
  | 78 => ⟨S128x4x4, .f32⟩
  | 79 => ⟨S4x4x128, .f32⟩
  | 80 => ⟨S4x4x128, .f32⟩
  | 81 => ⟨S4x4x1, .f32⟩
  | 82 => ⟨S4x4x128, .f32⟩
  | 83 => ⟨S4x4x128, .f32⟩
  | 84 => ⟨S4x4x128, .f32⟩
  | 85 => ⟨S4x4x128, .f32⟩
  | 86 => ⟨S128x4x4, .f32⟩
  | 87 => ⟨S128x4x4x1, .f32⟩
  | 88 => ⟨S128x4x4x64, .f32⟩
  | 89 => ⟨S128x4x4x64, .f32⟩
  | 90 => ⟨S4x4x64x128, .f32⟩
  | 91 => ⟨S4x4x1, .f32⟩
  | 92 => ⟨S4x4, .f32⟩
  | 93 => ⟨S4x4, .f32⟩
  | 94 => ⟨S4x4x1x1, .f32⟩
  | 95 => ⟨S_, .f32⟩
  | 96 => ⟨S4x4x64x128, .f32⟩
  | 97 => ⟨S4x4x64x128, .f32⟩
  | 98 => ⟨S4x4x64x128, .f32⟩
  | 99 => ⟨S4x4x64x128, .f32⟩
  | 100 => ⟨S4x128x256, .f32⟩
  | 101 => ⟨S_, .i32⟩
  | 102 => ⟨S_, .f32⟩
  | 103 => ⟨S8x128, .f32⟩
  | 104 => ⟨S4x1, .f32⟩
  | 105 => ⟨S4x128, .f32⟩
  | 106 => ⟨S_, .i32⟩
  | 107 => ⟨S_, .f32⟩
  | 108 => ⟨S8x128, .f32⟩
  | 109 => ⟨S4x128x4x64, .f32⟩
  | 110 => ⟨S4x128x256, .f32⟩
  | 111 => ⟨S8x2048, .f32⟩
  | _ => ⟨S128x8192, .bf16⟩

abbrev hbmTy (i : Nat) : BufTy := match i / 128 with
  | 0 => hbmTy0_0 i
  | 1 => hbmTy0_1 i
  | _ => ⟨S128x8192, .bf16⟩

abbrev bufTy : (tb : Table) → Fin (tcTables nBuf tb) → BufTy
  | .hbm, ⟨i, _⟩ => hbmTy i
  | _, _ => ⟨S128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_call0_cst : Ref sig .tc := ⟨.hbm, 50, rfl⟩
abbrev main_call1_call0_v0 : Ref sig .tc := ⟨.hbm, 51, rfl⟩
abbrev main_call1_call0_v1 : Ref sig .tc := ⟨.hbm, 52, rfl⟩
abbrev main_call1_call0_v2 : Ref sig .tc := ⟨.hbm, 53, rfl⟩
abbrev main_call1_call0_v3 : Ref sig .tc := ⟨.hbm, 54, rfl⟩
abbrev main_call1_call0_v4 : Ref sig .tc := ⟨.hbm, 55, rfl⟩
abbrev main_call1_call0_v5 : Ref sig .tc := ⟨.hbm, 56, rfl⟩
abbrev main_call1_call0_v6 : Ref sig .tc := ⟨.hbm, 57, rfl⟩
abbrev main_call1_call0_v7 : Ref sig .tc := ⟨.hbm, 58, rfl⟩
abbrev main_call1_call0_v8 : Ref sig .tc := ⟨.hbm, 59, rfl⟩
abbrev main_call1_call0_v9 : Ref sig .tc := ⟨.hbm, 60, rfl⟩
abbrev main_call1_call0_v10 : Ref sig .tc := ⟨.hbm, 61, rfl⟩
abbrev main_call1_call0_v11 : Ref sig .tc := ⟨.hbm, 62, rfl⟩
abbrev main_call1_v1 : Ref sig .tc := ⟨.hbm, 63, rfl⟩
abbrev main_v31 : Ref sig .tc := ⟨.hbm, 64, rfl⟩
abbrev main_cst_4 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call3_call0_cst : Ref sig .tc := ⟨.hbm, 74, rfl⟩
abbrev main_call3_call0_v0 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_5 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_6 : Ref sig .tc := ⟨.hbm, 95, rfl⟩
abbrev main_v55 : Ref sig .tc := ⟨.hbm, 96, rfl⟩
abbrev main_cst_7 : Ref sig .tc := ⟨.hbm, 97, rfl⟩
abbrev main_v56 : Ref sig .tc := ⟨.hbm, 98, rfl⟩
abbrev main_cst_8 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_9 : Ref sig .tc := ⟨.hbm, 125, rfl⟩
abbrev main_call4_v0 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_10 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_call5_v0 : Ref sig .tc := ⟨.hbm, 162, rfl⟩
abbrev main_call5_v1 : Ref sig .tc := ⟨.hbm, 163, rfl⟩
abbrev main_call5_cst : Ref sig .tc := ⟨.hbm, 164, rfl⟩
abbrev main_call5_v2 : Ref sig .tc := ⟨.hbm, 165, rfl⟩
abbrev main_call5_v3 : Ref sig .tc := ⟨.hbm, 166, rfl⟩
abbrev main_call5_cst_0 : Ref sig .tc := ⟨.hbm, 167, rfl⟩
abbrev main_call5_v4 : Ref sig .tc := ⟨.hbm, 168, rfl⟩
abbrev main_call5_v5 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_call6_cst : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_call6_v5 : Ref sig .tc := ⟨.hbm, 181, rfl⟩
abbrev main_call6_v6 : Ref sig .tc := ⟨.hbm, 182, rfl⟩
abbrev main_call6_v7 : Ref sig .tc := ⟨.hbm, 183, rfl⟩
abbrev main_call6_v8 : Ref sig .tc := ⟨.hbm, 184, rfl⟩
abbrev main_call6_v9 : Ref sig .tc := ⟨.hbm, 185, rfl⟩
abbrev main_call6_v10 : Ref sig .tc := ⟨.hbm, 186, rfl⟩
abbrev main_call6_v11 : Ref sig .tc := ⟨.hbm, 187, rfl⟩
abbrev main_v121 : Ref sig .tc := ⟨.hbm, 188, rfl⟩
abbrev main_cst_11 : Ref sig .tc := ⟨.hbm, 189, rfl⟩
abbrev main_call7_v0 : Ref sig .tc := ⟨.hbm, 190, rfl⟩
abbrev main_call7_v1 : Ref sig .tc := ⟨.hbm, 191, rfl⟩
abbrev main_call7_v2 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_call8_call0_cst : Ref sig .tc := ⟨.hbm, 204, rfl⟩
abbrev main_call8_call0_v0 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_cst_12 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_c_13 : Ref sig .tc := ⟨.hbm, 229, rfl⟩
abbrev main_call9_v0 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_c_14 : Ref sig .tc := ⟨.hbm, 234, rfl⟩
abbrev main_call10_v0 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩

abbrev nD : Nat := 1
abbrev τ : Topo := Topo.v7x

variable {F : FTy → Type} [FloatOps F]
-- ==== Proof.Common.Rows.lean ====
module
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Rows
open Idealize.ShloMosaic

/-- A row scaled by the reciprocal root of its mean square (plus the small constant), times the gains. -/
def rnorm (x g : Fin 1024 → EReal) (i : Fin 1024) : EReal :=
  x i * Ideal.rsqrt (Ideal.div (∑ k, x k * x k) (Ideal.ofBits .f32 0x44800000#32) + Ideal.ofBits .f32 0x358637BD#32) * g i

/-- A load of the whole buffer from stores that are all parts of `G` and cover it is `G`. -/
theorem readCov_whole {sig : RefSig} {κ : Kind} {sp : Space} {s : Shape} {e : EltTy} (v : View sig κ sp s e)
    (L : List (View.Piece (Elt Ideal) s e)) {off : Fin s.rank → ℕ} (inb : ∀ a, off a + s.size a ≤ s.size a) (G : s.Idx → Elt Ideal e)
    (h : View.PiecesOf G L) (hc : ∀ y : s.Idx, ∃ p ∈ L, y ∈ p.1.set) (h0 : ∀ a, off a = 0) :
    v.readCov L (Rect.unit off (no_index s.size) inb).toLoadRect = G := by
  rw [View.readCov_eq_canon']
  funext j
  have e : (Rect.unit off s.size inb).toLoadRect.idx j = j := by
    funext a
    exact Fin.ext (by simp [h0 a])
  refine (congrArg _ e).trans ?_
  have := View.canon_append_of_piecesOf G [] L h j (hc j)
  rwa [List.append_nil] at this

/-- What stores that are all parts of `G` and cover the buffer leave is `G`. -/
theorem canon_whole {s : Shape} {e : EltTy} (L : List (View.Piece (Elt Ideal) s e)) (G : s.Idx → Elt Ideal e)
    (h : View.PiecesOf G L) (hc : ∀ y : s.Idx, ∃ p ∈ L, y ∈ p.1.set) (y : s.Idx) : View.canon L y = G y := by
  have := View.canon_append_of_piecesOf G [] L h y (hc y)
  rwa [List.append_nil] at this

/-- Where a column tile lands. -/
theorem emb_tile {R N T : ℕ} (o : ℕ) (h : ∀ a : Fin 2, (![0, o] : Fin 2 → ℕ) a + (![R, T] : Fin 2 → ℕ) a ≤ (![R, N] : Fin 2 → ℕ) a) (r : Fin R) (l : Fin T) (hl : o + l < N) :
    (Rect.unit (s := ⟨2, ![R, N]⟩) ![0, o] ![R, T] h).emb (ix2 r l) = ix2 r ⟨o + l, hl⟩ := by
  funext a
  apply Fin.ext
  rw [ValueKit.rect_emb_unit_val]
  match a with
  | ⟨0, _⟩ => exact Nat.zero_add _
  | ⟨1, _⟩ => rfl

end Cert.Rows
-- ==== Proof.Ffn.Block.lean ====
module
public import proofs.«01_k».proof.Proof.Gen.FfnIdeal.Value
public import proofs.«01_k».proof.Proof.Common.Rows
@[expose] public section
set_option maxRecDepth 16384
noncomputable section
namespace Cert.Ffn
open Idealize.ShloMosaic Cert.Rows

/-- One hidden unit of the gated layer: the gate's SiLU times the up projection. -/
def hid (u : Fin 1024 → EReal) (w : Fin 1024 → Fin 5632 → EReal) (j : Fin 2816) : EReal :=
  (∑ k, u k * w k ⟨j, by omega⟩) * Ideal.logistic (∑ k, u k * w k ⟨j, by omega⟩) * ∑ k, u k * w k ⟨2816 + j, by omega⟩

/-- The row with the gated layer added to it. -/
def res (x g : Fin 1024 → EReal) (w : Fin 1024 → Fin 5632 → EReal) (v : Fin 2816 → Fin 1024 → EReal) (i : Fin 1024) : EReal :=
  x i + ∑ j, hid (rnorm x g) w j * v j i

end Cert.Ffn
namespace Cert.FfnIdeal.Blocks
open Cert.FfnIdeal Cert.FfnIdeal.Gen Idealize.ShloMosaic Idealize.ShloMosaic.TcCoe Idealize.SL.Sem
open Idealize.ShloMosaic.Pipeline (Dat)
open Cert.Ffn Cert.Rows

theorem pay2_apply (x : FVec Ideal S512x1024 .f32) (g : FVec Ideal S1x1024 .f32) (r : Fin 512) (l : Fin 1024) :
    k0_pay2 (F := Ideal) x g (ix2 r l) = rnorm (fun k => x (ix2 r k)) (fun k => g (ix2 0 k)) l := by
  pointwise [k0_pay2, rnorm]

/-- The hidden units of a block of rows. -/
def hidV (u : FVec Ideal S512x1024 .bf16) (w : FVec Ideal S1024x5632 .bf16) (y : S512x2816.Idx) : EReal :=
  hid (fun k => u (ix2 (y 0) k)) (fun k j => w (ix2 k j)) (y 1)

/-- The rows with the gated layer added. -/
def resV (x : FVec Ideal S512x1024 .f32) (H : FVec Ideal S512x2816 .bf16) (v : FVec Ideal S2816x1024 .bf16) (y : S512x1024.Idx) : EReal :=
  x y + ∑ j : Fin 2816, H (ix2 (y 0) j) * v (ix2 j (y 1))

theorem hid_tile (u : FVec Ideal S512x1024 .bf16) (w : FVec Ideal S1024x5632 .bf16) (o o' : ℕ) (h1 h2 h3) (ho : o' = 2816 + o)
    (x : S512x256.Idx) :
    k0_pay3 (F := Ideal) u (View.ld w (Rect.unit (s := S1024x5632) ![0, o] ![1024, 256] h1)) u (View.ld w (Rect.unit (s := S1024x5632) ![0, o'] ![1024, 256] h2)) x
      = hidV u w ((Rect.unit (s := S512x2816) ![0, o] ![512, 256] h3).emb x) := by
  subst ho
  idx_vars x
  have h3' : o + 256 ≤ 2816 := h3 1
  have e := emb_tile (R := 512) (N := 2816) (T := 256) o h3 x0 x1 (by omega)
  refine Eq.trans ?_ (congrArg (hidV u w) e.symm)
  pointwise [k0_pay3, hidV, hid]
  simp only [Nat.add_assoc]

theorem res_tile (x : FVec Ideal S512x1024 .f32) (H : FVec Ideal S512x2816 .bf16) (v : FVec Ideal S2816x1024 .bf16) (o : ℕ) (h1 h2 h3)
    (y : S512x256.Idx) :
    k0_pay18 (F := Ideal) (View.ld x (Rect.unit (s := S512x1024) ![0, o] ![512, 256] h1)) H (View.ld v (Rect.unit (s := S2816x1024) ![0, o] ![2816, 256] h2)) y
      = resV x H v ((Rect.unit (s := S512x1024) ![0, o] ![512, 256] h3).emb y) := by
  idx_vars y
  have h3' : o + 256 ≤ 1024 := h3 1
  have e := emb_tile (R := 512) (N := 1024) (T := 256) o h3 y0 y1 (by omega)
  refine Eq.trans ?_ (congrArg (resV x H v) e.symm)
  pointwise [k0_pay18, resV]

theorem pay1_apply (x : FVec Ideal S512x1024 .f32) (g : FVec Ideal S1x1024 .f32) (r : Fin 512) (l : Fin 1024) :
    k0_pay1 (F := Ideal) (k0_pay22 x) (k0_pay23 x) g (ix2 r l) = rnorm (fun k => x (ix2 r k)) (fun k => g (ix2 0 k)) l := by
  pointwise [k0_pay1, k0_pay22, k0_pay23, rnorm]

/-- One block of the result, from the blocks of the arguments. -/
def outB (x : FVec Ideal S512x1024 .f32) (g gf : FVec Ideal S1x1024 .f32) (w : FVec Ideal S1024x5632 .bf16) (v : FVec Ideal S2816x1024 .bf16) :
    FVec Ideal S512x1024 .f32 :=
  k0_pay1 (F := Ideal) (k0_pay22 (resV x (hidV (k0_pay2 x g) w) v)) (k0_pay23 (resV x (hidV (k0_pay2 x g) w) v)) gf

theorem outB_apply (x : FVec Ideal S512x1024 .f32) (g gf : FVec Ideal S1x1024 .f32) (w : FVec Ideal S1024x5632 .bf16) (v : FVec Ideal S2816x1024 .bf16)
    (r : Fin 512) (l : Fin 1024) :
    outB x g gf w v (ix2 r l)
      = rnorm (res (fun k => x (ix2 r k)) (fun k => g (ix2 0 k)) (fun k j => w (ix2 k j)) (fun j k => v (ix2 j k))) (fun k => gf (ix2 0 k)) l := by
  unfold outB
  rw [pay1_apply]
  refine congrArg (rnorm · _ l) (funext fun k => ?_)
  refine congrArg (x (ix2 r k) + ·) (Finset.sum_congr rfl fun j _ => ?_)
  refine congrArg (· * v (ix2 j k)) (congrArg (hid · _ j) (funext fun i => ?_))
  exact pay2_apply x g r i

variable (m : (ℓ : Loc nD τ sig) → Buf (Elt Ideal) ℓ) (ρ : Dev nD → PrngReg)

theorem idx : ∀ t : Fin cfg0.N, win0_0.index t = ![t.1, 0] ∧ win0_1.index t = ![0, 0] ∧ win0_2.index t = ![0, 0] ∧ win0_3.index t = ![0, 0]
    ∧ win0_4.index t = ![0, 0] ∧ win0_5.index t = ![t.1, 0] :=
  (by decide +kernel : ∀ t : Fin grid0.N, win0_0.index t = ![t.1, 0] ∧ win0_1.index t = ![0, 0] ∧ win0_2.index t = ![0, 0] ∧ win0_3.index t = ![0, 0]
    ∧ win0_4.index t = ![0, 0] ∧ win0_5.index t = ![t.1, 0])

theorem lt_rows (t : Fin cfg0.N) (r : Fin 512) : t.1 * 512 + r.1 < 16384 := by
  have h1 := t.2
  have h2 : cfg0.N = 32 := by decide +kernel
  omega

theorem iblk0 (c : Dev nD) (t : Fin cfg0.N) (r : Fin 512) (l : Fin 1024) :
    iblk m c 0 t (ix2 r l) = m ((c : Thread nD τ).loc main_arg0) (ix2 ⟨t.1 * 512 + r.1, lt_rows t r⟩ l) := by
  blk_point [iblk, V, idx t]
theorem iblk1 (c : Dev nD) (t : Fin cfg0.N) (l : Fin 1024) :
    iblk m c 1 t (ix2 0 l) = m ((c : Thread nD τ).loc main_arg1) (ix2 0 l) := by
  blk_point [iblk, V, idx t]
theorem iblk2 (c : Dev nD) (t : Fin cfg0.N) (l : Fin 1024) :
    iblk m c 2 t (ix2 0 l) = m ((c : Thread nD τ).loc main_arg4) (ix1 l) := by
  blk_point [iblk, V, idx t]
theorem iblk3 (c : Dev nD) (t : Fin cfg0.N) (k : Fin 1024) (j : Fin 5632) :
    iblk m c 3 t (ix2 k j) = m ((c : Thread nD τ).loc main_arg2) (ix3 0 k j) := by
  blk_point [iblk, V, idx t]
theorem iblk4 (c : Dev nD) (t : Fin cfg0.N) (k : Fin 2816) (j : Fin 1024) :
    iblk m c 4 t (ix2 k j) = m ((c : Thread nD τ).loc main_arg3) (ix3 0 k j) := by
  blk_point [iblk, V, idx t]

theorem arr_out (c : Dev nD) (G : S16384x1024.Idx → Elt Ideal .f32)
    (hG : ∀ (t : Fin cfg0.N) (y : S512x1024.Idx),
      outB (iblk m c 0 t) (iblk m c 1 t) (iblk m c 2 t) (iblk m c 3 t) (iblk m c 4 t) y = G (ix2 ⟨t.1 * 512 + (y 0).1, lt_rows t (y 0)⟩ (y 1))) :
     (dats m 0 c).arrAt 5 cfg0.N = G := by
  refine (dats m 0 c).arrAt_eq_of_covers 5 _ (by decide +kernel) fun t hf y => ?_
  blk_simp
  rw [after0_5]
  unfold outsAt0
  frame_open
  simp (disch := decide) only [↓ View.readCov_skip, ↓ View.readCov_cons_toLoadRect, ↓ View.readCov_fill]
  frame_out
  generalize hH : View.readCov (Val := Elt Ideal) (View.whole cc0_scratch1) _ _ = H
  obtain rfl : H = hidV (k0_pay2 (iblk m c 0 t) (iblk m c 1 t)) (iblk m c 3 t) := by
    refine hH.symm.trans (readCov_whole _ _ _ _ ?_ ?_ (by decide))
    · exact ⟨fun x => hid_tile _ _ _ _ (by decide) (by decide) (by decide) (by rfl) x, fun x => hid_tile _ _ _ _ (by decide) (by decide) (by decide) (by rfl) x, fun x => hid_tile _ _ _ _ (by decide) (by decide) (by decide) (by rfl) x, fun x => hid_tile _ _ _ _ (by decide) (by decide) (by decide) (by rfl) x, fun x => hid_tile _ _ _ _ (by decide) (by decide) (by decide) (by rfl) x, fun x => hid_tile _ _ _ _ (by decide) (by decide) (by decide) (by rfl) x, fun x => hid_tile _ _ _ _ (by decide) (by decide) (by decide) (by rfl) x, fun x => hid_tile _ _ _ _ (by decide) (by decide) (by decide) (by rfl) x, fun x => hid_tile _ _ _ _ (by decide) (by decide) (by decide) (by rfl) x, fun x => hid_tile _ _ _ _ (by decide) (by decide) (by decide) (by rfl) x, fun x => hid_tile _ _ _ _ (by decide) (by decide) (by decide) (by rfl) x, trivial⟩
    · exact fun y => View.cover_of_tiled_head _ _ _ (by rfl) y
  clear hH
  generalize hX : View.readCov (Val := Elt Ideal) (ms0_5 t).view _ _ = X
  obtain rfl : X = resV (iblk m c 0 t) (hidV (k0_pay2 (iblk m c 0 t) (iblk m c 1 t)) (iblk m c 3 t)) (iblk m c 4 t) := by
    refine hX.symm.trans (readCov_whole _ _ _ _ ?_ ?_ (by decide))
    · exact ⟨fun x => res_tile _ _ _ _ (by decide) (by decide) (by decide) x, fun x => res_tile _ _ _ _ (by decide) (by decide) (by decide) x, fun x => res_tile _ _ _ _ (by decide) (by decide) (by decide) x, fun x => res_tile _ _ _ _ (by decide) (by decide) (by decide) x, trivial⟩
    · exact fun y => View.cover_of_tiled_head _ _ _ (by rfl) y
  clear hX
  refine (hG t y).trans (congrArg G ?_)
  blk_ext [idx t]
end Cert.FfnIdeal.Blocks
-- ==== Proof.Ffn.Ref.lean ====
module
public import proofs.«01_k».proof.Proof.Ffn.Block
public import proofs.«01_k».proof.Proof.Gen.FfnRefIdeal.Run
public import Idealize.ShloMosaic.Lib.IdealHost
@[expose] public section
set_option maxRecDepth 16384
noncomputable section
namespace Cert.FfnRefIdeal.Rows
open Cert.FfnRefIdeal Cert.FfnRefIdeal.Gen Idealize.ShloMosaic Idealize.ShloMosaic.TcCoe Idealize.SL.Sem
open Cert.Ffn Cert.Rows
variable (m : (ℓ : Loc nD τ sig) → Buf (Elt Ideal) ℓ)

/-- The reference's normalised rows. -/
def hNorm (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The reference's two projections side by side. -/
def hProj (u : FVec Ideal S16384x1024 .f32) (w : FVec Ideal S1x1024x5632 .f32) : FVec Ideal S16384x5632 .f32 :=
  Host.dotGeneral dot_S16384x1024_S1024x5632_S16384x5632_1_0_0_1_n_n none u (shapeCast _ w shapeCasts_S1x1024x5632_S1024x5632)

/-- The reference's hidden units from the two projections. -/
def hHid (p : FVec Ideal S16384x5632 .f32) : FVec Ideal S16384x2816 .f32 :=
  mulf (mulf (extractStridedSlice S16384x2816 ![0, 0] p slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] p slices_S16384x5632_S16384x2816_0_0))))))
    (extractStridedSlice S16384x2816 ![0, 2816] p slices_S16384x5632_S16384x2816_0_2816)

/-- The reference's rows with the gated layer added. -/
def hRes (x : FVec Ideal S16384x1024 .f32) (H : FVec Ideal S16384x2816 .f32) (w : FVec Ideal S1x2816x1024 .f32) : FVec Ideal S16384x1024 .f32 :=
  addf x (Host.dotGeneral dot_S16384x2816_S2816x1024_S16384x1024_1_0_0_1_n_n none H (shapeCast _ w shapeCasts_S1x2816x1024_S2816x1024))

theorem hNorm_apply (x : FVec Ideal S16384x1024 .f32) (g : FVec Ideal S1024 .f32) (r : Fin 16384) (l : Fin 1024) :
    hNorm x g (ix2 r l) = rnorm (fun k => x (ix2 r k)) (fun k => g (ix1 k)) l := by
  pointwise [hNorm, rnorm]

theorem hHid_apply (u : FVec Ideal S16384x1024 .f32) (w : FVec Ideal S1x1024x5632 .f32) (r : Fin 16384) (j : Fin 2816) :
    hHid (hProj u w) (ix2 r j) = hid (fun k => u (ix2 r k)) (fun k j => w (ix3 0 k j)) j := by
  pointwise [hHid, hProj, hid, Ideal.logistic, Ideal.ofBits_one_f32]

theorem hRes_apply (x : FVec Ideal S16384x1024 .f32) (H : FVec Ideal S16384x2816 .f32) (w : FVec Ideal S1x2816x1024 .f32) (r : Fin 16384) (l : Fin 1024) :
    hRes x H w (ix2 r l) = x (ix2 r l) + ∑ j : Fin 2816, H (ix2 r j) * w (ix3 0 j l) := by
  pointwise [hRes]

theorem gain_apply (g : FVec Ideal S1x1024 .f32) (l : Fin 1024) : (shapeCast S1024 g shapeCasts_S1x1024_S1024) (ix1 l) = g (ix2 0 l) := by
  pointwise

theorem out_apply (c : Dev nD) (r : Fin 16384) (l : Fin 1024) :
    Value.res_out0 m c (ix2 r l)
      = rnorm (res (fun k => m ((c : Thread nD τ).loc main_arg0) (ix2 r k)) (fun k => m ((c : Thread nD τ).loc main_arg1) (ix2 0 k))
          (fun k j => m ((c : Thread nD τ).loc main_arg2) (ix3 0 k j)) (fun j k => m ((c : Thread nD τ).loc main_arg3) (ix3 0 j k)))
          (fun k => m ((c : Thread nD τ).loc main_arg4) (ix1 k)) l := by
  have e : Value.res_out0 m c = hNorm (hRes (m ((c : Thread nD τ).loc main_arg0)) (hHid (hProj (hNorm (m ((c : Thread nD τ).loc main_arg0))
      (shapeCast S1024 (m ((c : Thread nD τ).loc main_arg1)) shapeCasts_S1x1024_S1024)) (m ((c : Thread nD τ).loc main_arg2)))) (m ((c : Thread nD τ).loc main_arg3)))
      (m ((c : Thread nD τ).loc main_arg4)) := rfl
  rw [e, hNorm_apply]
  refine congrArg (rnorm · _ l) (funext fun k => ?_)
  rw [hRes_apply]
  refine congrArg (HAdd.hAdd (α := EReal) _) (Finset.sum_congr rfl fun j _ => ?_)
  rw [hHid_apply]
  refine congrArg (fun z : EReal => z * _) (congrArg (hid · _ j) (funext fun i => ?_))
  rw [hNorm_apply]
  exact congrArg (rnorm _ · i) (funext fun k => gain_apply _ k)
end Cert.FfnRefIdeal.Rows
-- ==== Proof.Ffn.Claim.lean ====
module
public import proofs.«01_k».proof.Defs
public import proofs.«01_k».proof.Proof.Ffn.Ref
public import proofs.«01_k».proof.Proof.Gen.Ffn.Frame
public import proofs.«01_k».proof.Proof.Gen.FfnIdeal.Frame
public import Idealize.ShloMosaic.Init
@[expose] public section
set_option maxRecDepth 16384
noncomputable section
namespace Cert.Ffn
open Idealize.ShloMosaic Idealize.ShloMosaic.TcCoe Idealize.SL.Sem Cert.Rows

/-- The result of the feed-forward call, element by element. -/
def G (x : FVec Ideal FfnIdeal.S16384x1024 .f32) (g : FVec Ideal FfnIdeal.S1x1024 .f32) (w : FVec Ideal FfnIdeal.S1x1024x5632 .f32)
    (v : FVec Ideal FfnIdeal.S1x2816x1024 .f32) (gf : FVec Ideal FfnIdeal.S1024 .f32) (y : FfnIdeal.S16384x1024.Idx) : EReal :=
  rnorm (res (fun k => x (ix2 (y 0) k)) (fun k => g (ix2 0 k)) (fun k j => w (ix3 0 k j)) (fun j k => v (ix3 0 j k))) (fun k => gf (ix1 k)) (y 1)

theorem kernel_eq (m : (ℓ : Loc FfnIdeal.nD FfnIdeal.τ FfnIdeal.sig) → Buf (Elt Ideal) ℓ) (c : Dev FfnIdeal.nD) :
    (FfnIdeal.Gen.dats m 0 c).arrAt 5 FfnIdeal.cfg0.N
      = G (m ((c : Thread FfnIdeal.nD FfnIdeal.τ).loc FfnIdeal.main_arg0)) (m ((c : Thread FfnIdeal.nD FfnIdeal.τ).loc FfnIdeal.main_arg1)) (m ((c : Thread FfnIdeal.nD FfnIdeal.τ).loc FfnIdeal.main_arg2))
        (m ((c : Thread FfnIdeal.nD FfnIdeal.τ).loc FfnIdeal.main_arg3)) (m ((c : Thread FfnIdeal.nD FfnIdeal.τ).loc FfnIdeal.main_arg4)) := by
  refine FfnIdeal.Blocks.arr_out m c _ fun t y => ?_
  idx_vars y
  refine (FfnIdeal.Blocks.outB_apply _ _ _ _ _ y0 y1).trans ?_
  have e0 : (fun k => FfnIdeal.Gen.iblk m c 0 t (ix2 y0 k)) = _ := funext fun k => FfnIdeal.Blocks.iblk0 m c t y0 k
  have e1 : (fun k => FfnIdeal.Gen.iblk m c 1 t (ix2 0 k)) = _ := funext fun k => FfnIdeal.Blocks.iblk1 m c t k
  have e2 : (fun k => FfnIdeal.Gen.iblk m c 2 t (ix2 0 k)) = _ := funext fun k => FfnIdeal.Blocks.iblk2 m c t k
  have e3 : (fun k j => FfnIdeal.Gen.iblk m c 3 t (ix2 k j)) = _ := funext fun k => funext fun j => FfnIdeal.Blocks.iblk3 m c t k j
  have e4 : (fun j k => FfnIdeal.Gen.iblk m c 4 t (ix2 j k)) = _ := funext fun j => funext fun k => FfnIdeal.Blocks.iblk4 m c t j k
  rw [e0, e1, e2, e3, e4]
  rfl

theorem reference_eq (m : (ℓ : Loc FfnRefIdeal.nD FfnRefIdeal.τ FfnRefIdeal.sig) → Buf (Elt Ideal) ℓ) (c : Dev FfnRefIdeal.nD) :
    FfnRefIdeal.Value.res_out0 m c
      = G (m ((c : Thread FfnRefIdeal.nD FfnRefIdeal.τ).loc FfnRefIdeal.main_arg0)) (m ((c : Thread FfnRefIdeal.nD FfnRefIdeal.τ).loc FfnRefIdeal.main_arg1)) (m ((c : Thread FfnRefIdeal.nD FfnRefIdeal.τ).loc FfnRefIdeal.main_arg2))
        (m ((c : Thread FfnRefIdeal.nD FfnRefIdeal.τ).loc FfnRefIdeal.main_arg3)) (m ((c : Thread FfnRefIdeal.nD FfnRefIdeal.τ).loc FfnRefIdeal.main_arg4)) := by
  funext y
  idx_vars y
  exact FfnRefIdeal.Rows.out_apply m c y0 y1

theorem frame_ref : Cert.quiescent_FfnRefIdeal (hFfnRefIdeal := FfnRefIdeal.Gen.facts) := fun m g _ =>
  (θ_run FfnRefIdeal.defs _ _).mono (fun r h => ⟨fun c => (h c).2, sem_eq_zero_of_no_sems (by decide) r.2⟩) (FfnRefIdeal.Value.run (F := Ideal) m g)

theorem algebraic : Cert.algebraic_FfnIdeal_FfnRefIdeal (hFfnIdeal := FfnIdeal.Gen.facts) (hFfnRefIdeal := FfnRefIdeal.Gen.facts) := by
  intro m g m' g' _ hag
  refine ⟨fun c => (FfnIdeal.Gen.dats m 0 c).arrAt 5 FfnIdeal.cfg0.N, FfnIdeal.Value.run_blocks m g,
    (θ_run FfnRefIdeal.defs _ _).mono (fun r h c => ⟨(h c).1.trans ?_, (h c).2⟩) (FfnRefIdeal.Value.run (F := Ideal) m' g')⟩
  refine (reference_eq m' c).trans ?_
  rw [(hag c).1, (hag c).2.1, (hag c).2.2.1, (hag c).2.2.2.1, (hag c).2.2.2.2]
  exact (kernel_eq m c).symm
end Cert.Ffn
-- ==== Proof.Common.Cat.lean ====
module
public import Idealize.ShloMosaic.Lib.Pointwise
@[expose] public section
set_option maxRecDepth 16384
noncomputable section
namespace Cert.Cat
open Idealize.ShloMosaic

/-- The matrices of the list, side by side from column `pre` on, are the columns of `G`. -/
def Cols {α : Type} {R N : ℕ} (G : Fin R → Fin N → α) : ℕ → List ((s : Shape) × (s.Idx → α)) → Prop
  | _, [] => True
  | pre, p :: L => ∃ n, ∃ x : (⟨2, ![R, n]⟩ : Shape).Idx → α, p = ⟨_, x⟩ ∧ (∀ r l h, x (ix2 r l) = G r ⟨pre + l.1, h⟩) ∧ Cols G (pre + n) L

theorem concatenateAt_cols {α : Type} {R N : ℕ} (G : Fin R → Fin N → α) (r : Fin R) (l : Fin N) :
    ∀ (xs : List ((s : Shape) × (s.Idx → α))) (hs : ∀ s ∈ xs.map (·.1), s.FitsOff ⟨2, ![R, N]⟩ 1) (c : ℕ)
      (hc : c < (axisSizes ⟨2, ![R, N]⟩ 1 xs).sum) (pre : ℕ), l.1 = pre + c → Cols G pre xs →
      concatenateAt (⟨2, ![R, N]⟩ : Shape) 1 (ix2 r l) xs hs c hc = G r l
  | [], _, _, hc, _, _, _ => absurd hc (Nat.not_lt_zero _)
  | [p], hs, c, hc, pre, hl, h => by
    obtain ⟨n, x, rfl, hx, -⟩ := h
    have hn : c < n := by
      rw [axisSizes_cons _ _ _ _ (hs _ List.mem_cons_self)] at hc
      have e : c < n + 0 := hc
      omega
    rw [concatenateAt_singleton]
    refine (congrArg x (?_ : _ = ix2 r ⟨c, hn⟩)).trans ((hx r ⟨c, hn⟩ (hl ▸ l.2)).trans (congrArg (G r) (Fin.ext hl.symm)))
    funext b
    apply Fin.ext
    match b with
    | ⟨0, _⟩ => rfl
    | ⟨1, _⟩ => rfl
  | p :: q :: L, hs, c, hc, pre, hl, h => by
    obtain ⟨n, x, rfl, hx, hL⟩ := h
    rw [concatenateAt_cons]
    by_cases hn : c < n
    · refine (dif_pos hn).trans ?_
      refine (congrArg x (?_ : _ = ix2 r ⟨c, hn⟩)).trans ((hx r ⟨c, hn⟩ (hl ▸ l.2)).trans (congrArg (G r) (Fin.ext hl.symm)))
      funext b
      apply Fin.ext
      match b with
      | ⟨0, _⟩ => rfl
      | ⟨1, _⟩ => rfl
    · refine (dif_neg hn).trans ?_
      refine concatenateAt_cols G r l (q :: L) _ _ _ (pre + n) ?_ hL
      show l.1 = pre + n + (c - n)
      omega

/-- Matrices laid side by side, read at an entry. -/
theorem concatenate_cols {α : Type} {R N : ℕ} (G : Fin R → Fin N → α) (xs : List ((s : Shape) × (s.Idx → α)))
    (h : Shape.Concatenates (xs.map (·.1)) ⟨2, ![R, N]⟩ 1) (hG : Cols G 0 xs) (r : Fin R) (l : Fin N) :
    concatenate (⟨2, ![R, N]⟩ : Shape) 1 xs h (ix2 r l) = G r l := by
  rw [concatenate_apply]
  exact concatenateAt_cols G r l xs _ _ _ 0 (Nat.zero_add _).symm hG

end Cert.Cat
-- ==== Proof.Proj.Block.lean ====
module
public import proofs.«01_k».proof.Proof.Gen.ProjIdeal.Value
public import proofs.«01_k».proof.Proof.Common.Rows
public import proofs.«01_k».proof.Proof.Common.Cat
@[expose] public section
set_option maxRecDepth 16384
noncomputable section
namespace Cert.Proj
open Idealize.ShloMosaic Cert.Rows

/-- The column of the projection that lands in column `l` of the wide result: the gates' pre-activations are left out. -/
def src (l : Fin 8192) : Fin 8216 :=
  ⟨if l.1 < 3072 then l else if l.1 < 6144 then l + 8 else l + 24, by have := l.2; split <;> [omega; split <;> omega]⟩

/-- One row of the wide result from the row of the projection; the queries are scaled. -/
def wideAt (p : Fin 8216 → EReal) (l : Fin 8192) : EReal :=
  if l.1 < 512 then p (src l) * Ideal.ofBits .f32 0x3DB504F3#32 else p (src l)

/-- One row of the gates' result from the row of the projection, zeros behind. -/
def gateAt (p : Fin 8216 → EReal) (l : Fin 128) : EReal :=
  if h : l.1 < 8 then p ⟨3072 + l, by omega⟩ else if h : l.1 < 24 then p ⟨6144 + l, by omega⟩ else 0

/-- One row of the rearranged weights: the wide columns, then the gates'. -/
def wcol (p : Fin 8216 → EReal) (l : Fin 8320) : EReal :=
  if h : l.1 < 8192 then p (src ⟨l, h⟩) else gateAt p ⟨l - 8192, by omega⟩

/-- One row of the projection. -/
def proj (x g : Fin 1024 → EReal) (w : Fin 1024 → Fin 8216 → EReal) (j : Fin 8216) : EReal := ∑ k, rnorm x g k * w k j

end Cert.Proj
namespace Cert.ProjIdeal.Blocks
open Cert.ProjIdeal Cert.ProjIdeal.Gen Idealize.ShloMosaic Idealize.ShloMosaic.TcCoe Idealize.SL.Sem
open Idealize.ShloMosaic.Pipeline (Dat)
open Cert.Proj Cert.Rows Cert.Cat
variable (m : (ℓ : Loc nD τ sig) → Buf (Elt Ideal) ℓ) (ρ : Dev nD → PrngReg)

theorem idx : ∀ t : Fin cfg0.N, win0_0.index t = ![t.1, 0] ∧ win0_1.index t = ![0, 0] ∧ win0_2.index t = ![0, 0] ∧ win0_3.index t = ![t.1, 0]
    ∧ win0_4.index t = ![t.1, 0] :=
  (by decide +kernel : ∀ t : Fin grid0.N, win0_0.index t = ![t.1, 0] ∧ win0_1.index t = ![0, 0] ∧ win0_2.index t = ![0, 0] ∧ win0_3.index t = ![t.1, 0]
    ∧ win0_4.index t = ![t.1, 0])

theorem lt_rows (t : Fin cfg0.N) (r : Fin 512) : t.1 * 512 + r.1 < 16384 := by
  have h1 := t.2
  have h2 : cfg0.N = 32 := by decide +kernel
  omega

theorem iblk0 (c : Dev nD) (t : Fin cfg0.N) (r : Fin 512) (l : Fin 1024) :
    iblk m c 0 t (ix2 r l) = shapeCast S16384x1024 (m ((c : Thread nD τ).loc main_arg0)) shapeCasts_S8x2048x1024_S16384x1024 (ix2 ⟨t.1 * 512 + r.1, lt_rows t r⟩ l) := by
  have e : ((View.whole main_v27).slice (win0_0.rect t)).emb (ix2 r l) = ix2 ⟨t.1 * 512 + r.1, lt_rows t r⟩ l := by
    blk_ext [idx t]
  blk_simp [iblk, V]
  rw [e]
  entry_read
  rfl

theorem iblk1 (c : Dev nD) (t : Fin cfg0.N) (l : Fin 1024) :
    iblk m c 1 t (ix2 0 l) = m ((c : Thread nD τ).loc main_arg1) (ix2 0 l) := by
  blk_point [iblk, V, idx t]

theorem slice_cols {n : ℕ} (w : FVec Ideal S1x1024x8216 .f32) (o : ℕ) (h : Shape.Slices S1024x8216 ![0, o] ⟨2, ![1024, n]⟩) (k : Fin 1024) (l : Fin n) (hl : o + l < 8216) :
    extractStridedSlice (⟨2, ![1024, n]⟩ : Shape) ![0, o] (shapeCast S1024x8216 w shapeCasts_S1x1024x8216_S1024x8216) h (ix2 k l) = w (ix3 0 k ⟨o + l, hl⟩) := by
  pointwise

/-- The rearranged weights. -/
def wall (w : FVec Ideal S1x1024x8216 .f32) : FVec Ideal S1024x8320 .f32 :=
  concatenate S1024x8320 1 [⟨S1024x512, extractStridedSlice S1024x512 ![0, 0] (shapeCast S1024x8216 w shapeCasts_S1x1024x8216_S1024x8216) slices_S1024x8216_S1024x512_0_0⟩,
    ⟨S1024x512, extractStridedSlice S1024x512 ![0, 512] (shapeCast S1024x8216 w shapeCasts_S1x1024x8216_S1024x8216) slices_S1024x8216_S1024x512_0_512⟩,
    ⟨S1024x1024, extractStridedSlice S1024x1024 ![0, 1024] (shapeCast S1024x8216 w shapeCasts_S1x1024x8216_S1024x8216) slices_S1024x8216_S1024x1024_0_1024⟩,
    ⟨S1024x1024, extractStridedSlice S1024x1024 ![0, 2048] (shapeCast S1024x8216 w shapeCasts_S1x1024x8216_S1024x8216) slices_S1024x8216_S1024x1024_0_2048⟩,
    ⟨S1024x1024, extractStridedSlice S1024x1024 ![0, 3080] (shapeCast S1024x8216 w shapeCasts_S1x1024x8216_S1024x8216) slices_S1024x8216_S1024x1024_0_3080⟩,
    ⟨S1024x2048, extractStridedSlice S1024x2048 ![0, 4104] (shapeCast S1024x8216 w shapeCasts_S1x1024x8216_S1024x8216) slices_S1024x8216_S1024x2048_0_4104⟩,
    ⟨S1024x1024, extractStridedSlice S1024x1024 ![0, 6168] (shapeCast S1024x8216 w shapeCasts_S1x1024x8216_S1024x8216) slices_S1024x8216_S1024x1024_0_6168⟩,
    ⟨S1024x1024, extractStridedSlice S1024x1024 ![0, 7192] (shapeCast S1024x8216 w shapeCasts_S1x1024x8216_S1024x8216) slices_S1024x8216_S1024x1024_0_7192⟩,
    ⟨S1024x4, extractStridedSlice S1024x4 ![0, 3072] (shapeCast S1024x8216 w shapeCasts_S1x1024x8216_S1024x8216) slices_S1024x8216_S1024x4_0_3072⟩,
    ⟨S1024x4, extractStridedSlice S1024x4 ![0, 3076] (shapeCast S1024x8216 w shapeCasts_S1x1024x8216_S1024x8216) slices_S1024x8216_S1024x4_0_3076⟩,
    ⟨S1024x16, extractStridedSlice S1024x16 ![0, 6152] (shapeCast S1024x8216 w shapeCasts_S1x1024x8216_S1024x8216) slices_S1024x8216_S1024x16_0_6152⟩,
    ⟨S1024x104, broadcastInDim S1024x104 ![] bcast_S_S1024x104 (constant S_ .f32 0x00000000#32)⟩]
    concatenates_S1024x512_S1024x512_S1024x1024_S1024x1024_S1024x1024_S1024x2048_S1024x1024_S1024x1024_S1024x4_S1024x4_S1024x16_S1024x104_S1024x8320_d1

theorem wall_apply (w : FVec Ideal S1x1024x8216 .f32) (k : Fin 1024) (j : Fin 8320) :
    wall w (ix2 k j) = wcol (fun j => w (ix3 0 k j)) j := by
  refine (concatenate_cols (α := EReal) (fun k j => wcol (fun j => w (ix3 0 k j)) j) _ _ ?_ k j)
  refine ⟨512, _, rfl, fun r l h => ?_, 512, _, rfl, fun r l h => ?_, 1024, _, rfl, fun r l h => ?_, 1024, _, rfl, fun r l h => ?_, 1024, _, rfl, fun r l h => ?_,
    2048, _, rfl, fun r l h => ?_, 1024, _, rfl, fun r l h => ?_, 1024, _, rfl, fun r l h => ?_, 4, _, rfl, fun r l h => ?_, 4, _, rfl, fun r l h => ?_,
    16, _, rfl, fun r l h => ?_, 104, _, rfl, fun r l h => ?_, trivial⟩
  rotate_right
  · have hl := l.2
    dsimp only [wcol, gateAt]
    rw [dif_neg (by omega), dif_neg (by omega), dif_neg (by omega)]
    pointwise
  all_goals
    refine (slice_cols w _ _ r l (by omega)).trans ?_
    have hl := l.2
    dsimp only [wcol, gateAt, src]
    split_ifs
    all_goals first | omega | exact congrArg (fun z => w (ix3 0 r z)) (Fin.ext (by first | (dsimp only; done) | (dsimp only; omega))) | exact congrArg (fun z => w (ix3 0 r z)) (Fin.ext (by dsimp only; split_ifs <;> omega))

set_option maxHeartbeats 2000000 in
theorem iblk2 (c : Dev nD) (t : Fin cfg0.N) (k : Fin 1024) (j : Fin 8320) :
    iblk m c 2 t (ix2 k j) = wcol (fun j => m ((c : Thread nD τ).loc main_arg2) (ix3 0 k j)) j := by
  have e : ((View.whole main_v24).slice (win0_2.rect t)).emb (ix2 k j) = ix2 k j := by
    blk_ext [idx t]
  blk_simp [iblk, V]
  rw [e]
  after_results_simp
  exact wall_apply _ k j
theorem pay3_apply (x : FVec Ideal S512x1024 .f32) (g : FVec Ideal S1x1024 .f32) (r : Fin 512) (l : Fin 1024) :
    k0_pay3 (F := Ideal) x g (ix2 r l) = rnorm (fun k => x (ix2 r k)) (fun k => g (ix2 0 k)) l := by
  pointwise [k0_pay3, rnorm]

/-- The wide result of a block of rows. -/
def wideV (u : FVec Ideal S512x1024 .bf16) (w : FVec Ideal S1024x8320 .bf16) (y : S512x8192.Idx) : EReal :=
  if (y 1).1 < 512 then (∑ k : Fin 1024, u (ix2 (y 0) k) * w (ix2 k ⟨(y 1).1, by have h : (y 1).1 < 8192 := (y 1).2; omega⟩)) * Ideal.ofBits .f32 0x3DB504F3#32
  else ∑ k : Fin 1024, u (ix2 (y 0) k) * w (ix2 k ⟨(y 1).1, by have h : (y 1).1 < 8192 := (y 1).2; omega⟩)

theorem query_tile (u : FVec Ideal S512x1024 .bf16) (w : FVec Ideal S1024x8320 .bf16) (h2 h3) (x : S512x512.Idx) :
    k0_pay4 (F := Ideal) u (View.ld w (Rect.unit (s := S1024x8320) ![0, 0] ![1024, 512] h2)) x
      = wideV u w ((Rect.unit (s := S512x8192) ![0, 0] ![512, 512] h3).emb x) := by
  idx_vars x
  have e := emb_tile (R := 512) (N := 8192) (T := 512) 0 h3 x0 x1 (by omega)
  refine Eq.trans ?_ (congrArg (wideV u w) e.symm)
  have e2 : wideV u w (ix2 x0 ⟨0 + x1.1, by omega⟩) = (∑ k : Fin 1024, u (ix2 x0 k) * w (ix2 k ⟨0 + x1.1, by omega⟩)) * Ideal.ofBits .f32 0x3DB504F3#32 :=
    if_pos (show 0 + x1.1 < 512 by omega)
  refine Eq.trans ?_ e2.symm
  pointwise [k0_pay4]

theorem wide_tile (u : FVec Ideal S512x1024 .bf16) (w : FVec Ideal S1024x8320 .bf16) (o : ℕ) (h2 h3) (ho : 512 ≤ o) (x : S512x512.Idx) :
    k0_pay5 (F := Ideal) u (View.ld w (Rect.unit (s := S1024x8320) ![0, o] ![1024, 512] h2)) x
      = wideV u w ((Rect.unit (s := S512x8192) ![0, o] ![512, 512] h3).emb x) := by
  idx_vars x
  have h3' : o + 512 ≤ 8192 := h3 1
  have e := emb_tile (R := 512) (N := 8192) (T := 512) o h3 x0 x1 (by omega)
  refine Eq.trans ?_ (congrArg (wideV u w) e.symm)
  have e2 : wideV u w (ix2 x0 ⟨o + x1.1, by omega⟩) = ∑ k : Fin 1024, u (ix2 x0 k) * w (ix2 k ⟨o + x1.1, by omega⟩) :=
    if_neg (show ¬ o + x1.1 < 512 by omega)
  refine Eq.trans ?_ e2.symm
  pointwise [k0_pay5]

theorem gate_block (u : FVec Ideal S512x1024 .bf16) (w : FVec Ideal S1024x8320 .bf16) (h2) (r : Fin 512) (l : Fin 128) :
    k0_pay2 (F := Ideal) u (View.ld w (Rect.unit (s := S1024x8320) ![0, 8192] ![1024, 128] h2)) (ix2 r l)
      = ∑ k : Fin 1024, u (ix2 r k) * w (ix2 k ⟨8192 + l.1, by omega⟩) := by
  pointwise [k0_pay2]

set_option maxHeartbeats 2000000 in
theorem arr_wide (c : Dev nD) (G : S16384x8192.Idx → Elt Ideal .bf16)
    (hG : ∀ (t : Fin cfg0.N) (y : S512x8192.Idx), wideV (k0_pay3 (iblk m c 0 t) (iblk m c 1 t)) (iblk m c 2 t) y = G (ix2 ⟨t.1 * 512 + (y 0).1, lt_rows t (y 0)⟩ (y 1))) :
    (dats m 0 c).arrAt 3 cfg0.N = G := by
  refine (dats m 0 c).arrAt_eq_of_covers 3 _ (by decide +kernel) fun t hf y => ?_
  blk_simp
  rw [after0_3]
  unfold outsAt0
  frame_open
  simp (disch := decide) only [↓ View.readCov_skip, ↓ View.readCov_cons_toLoadRect, ↓ View.readCov_fill]
  frame_out
  refine Eq.trans (b := wideV (k0_pay3 (iblk m c 0 t) (iblk m c 1 t)) (iblk m c 2 t) y) ?_ ?_
  refine canon_whole (s := S512x8192) _ _ ?_ (fun y => View.cover_of_tiledL (s := S512x8192) _ ![512, 512] ?_ y) y
  · exact ⟨fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x, fun x => wide_tile _ _ _ (by decide) (by decide) (by decide) x,
      fun x => query_tile _ _ (by decide) (by decide) x, trivial⟩
  · sl_kernel_rfl
  refine (hG t y).trans (congrArg G ?_)
  blk_ext [idx t]

theorem arr_gate (c : Dev nD) (G : S16384x128.Idx → Elt Ideal .f32)
    (hG : ∀ (t : Fin cfg0.N) (r : Fin 512) (l : Fin 128),
      ∑ k : Fin 1024, k0_pay3 (F := Ideal) (iblk m c 0 t) (iblk m c 1 t) (ix2 r k) * iblk m c 2 t (ix2 k ⟨8192 + l.1, by omega⟩)
        = G (ix2 ⟨t.1 * 512 + r.1, lt_rows t r⟩ l)) :
    (dats m 0 c).arrAt 4 cfg0.N = G := by
  refine (dats m 0 c).arrAt_eq_of_covers 4 _ (by decide +kernel) fun t hf y => ?_
  blk_simp
  rw [after0_4]
  unfold outsAt0
  frame_open
  simp (disch := decide) only [↓ View.readCov_skip, ↓ View.readCov_cons_toLoadRect, ↓ View.readCov_fill]
  frame_out
  idx_vars y
  refine (gate_block _ _ _ y0 y1).trans ((hG t y0 y1).trans (congrArg G ?_))
  blk_ext [idx t]

end Cert.ProjIdeal.Blocks
-- ==== Proof.Proj.Ref.lean ====
module
public import proofs.«01_k».proof.Proof.Proj.Block
public import proofs.«01_k».proof.Proof.Gen.ProjRefIdeal.Run
public import Idealize.ShloMosaic.Lib.IdealHost
@[expose] public section
set_option maxRecDepth 16384
noncomputable section
namespace Cert.ProjRefIdeal.Rows
open Cert.ProjRefIdeal Cert.ProjRefIdeal.Gen Idealize.ShloMosaic Idealize.ShloMosaic.TcCoe Idealize.SL.Sem
open Cert.Proj Cert.Rows Cert.Cat
variable (m : (ℓ : Loc nD τ sig) → Buf (Elt Ideal) ℓ)

/-- The reference's normalised rows. -/
def hNorm (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The reference's projection. -/
def hProj (u : FVec Ideal S16384x1024 .f32) (w : FVec Ideal S1x1024x8216 .f32) : FVec Ideal S16384x8216 .f32 :=
  Host.dotGeneral dot_S16384x1024_S1024x8216_S16384x8216_1_0_0_1_n_n none u (shapeCast _ w shapeCasts_S1x1024x8216_S1024x8216)

/-- The reference's projection from its arguments. -/
def hAll (x : FVec Ideal S8x2048x1024 .f32) (g : FVec Ideal S1x1024 .f32) (w : FVec Ideal S1x1024x8216 .f32) : FVec Ideal S16384x8216 .f32 :=
  hProj (hNorm (shapeCast _ x shapeCasts_S8x2048x1024_S16384x1024) (shapeCast _ g shapeCasts_S1x1024_S1024)) w

/-- The reference's wide result from the projection. -/
def hWide (p : FVec Ideal S16384x8216 .f32) : FVec Ideal S16384x8192 .f32 :=
  concatenate S16384x8192 1 [⟨S16384x512, mulf (extractStridedSlice S16384x512 ![0, 0] p slices_S16384x8216_S16384x512_0_0) (broadcastInDim S16384x512 ![] bcast_S_S16384x512 (constant S_ .f32 0x3DB504F3#32))⟩,
    ⟨S16384x512, extractStridedSlice S16384x512 ![0, 512] p slices_S16384x8216_S16384x512_0_512⟩,
    ⟨S16384x1024, extractStridedSlice S16384x1024 ![0, 1024] p slices_S16384x8216_S16384x1024_0_1024⟩,
    ⟨S16384x1024, extractStridedSlice S16384x1024 ![0, 2048] p slices_S16384x8216_S16384x1024_0_2048⟩,
    ⟨S16384x1024, extractStridedSlice S16384x1024 ![0, 3080] p slices_S16384x8216_S16384x1024_0_3080⟩,
    ⟨S16384x2048, extractStridedSlice S16384x2048 ![0, 4104] p slices_S16384x8216_S16384x2048_0_4104⟩,
    ⟨S16384x1024, extractStridedSlice S16384x1024 ![0, 6168] p slices_S16384x8216_S16384x1024_0_6168⟩,
    ⟨S16384x1024, extractStridedSlice S16384x1024 ![0, 7192] p slices_S16384x8216_S16384x1024_0_7192⟩]
    concatenates_S16384x512_S16384x512_S16384x1024_S16384x1024_S16384x1024_S16384x2048_S16384x1024_S16384x1024_S16384x8192_d1

/-- The reference's gates from the projection. -/
def hGate (p : FVec Ideal S16384x8216 .f32) : FVec Ideal S16384x128 .f32 :=
  concatenate S16384x128 1 [⟨S16384x4, extractStridedSlice S16384x4 ![0, 3072] p slices_S16384x8216_S16384x4_0_3072⟩,
    ⟨S16384x4, extractStridedSlice S16384x4 ![0, 3076] p slices_S16384x8216_S16384x4_0_3076⟩,
    ⟨S16384x16, extractStridedSlice S16384x16 ![0, 6152] p slices_S16384x8216_S16384x16_0_6152⟩,
    ⟨S16384x104, broadcastInDim S16384x104 ![] bcast_S_S16384x104 (constant S_ .f32 0x00000000#32)⟩]
    concatenates_S16384x4_S16384x4_S16384x16_S16384x104_S16384x128_d1

theorem hNorm_apply (x : FVec Ideal S16384x1024 .f32) (g : FVec Ideal S1024 .f32) (r : Fin 16384) (l : Fin 1024) :
    hNorm x g (ix2 r l) = rnorm (fun k => x (ix2 r k)) (fun k => g (ix1 k)) l := by
  pointwise [hNorm, rnorm]

theorem hProj_apply (u : FVec Ideal S16384x1024 .f32) (w : FVec Ideal S1x1024x8216 .f32) (r : Fin 16384) (j : Fin 8216) :
    hProj u w (ix2 r j) = ∑ k : Fin 1024, u (ix2 r k) * w (ix3 0 k j) := by
  pointwise [hProj]

theorem gain_apply (g : FVec Ideal S1x1024 .f32) (l : Fin 1024) : (shapeCast S1024 g shapeCasts_S1x1024_S1024) (ix1 l) = g (ix2 0 l) := by
  pointwise

theorem hAll_apply (x : FVec Ideal S8x2048x1024 .f32) (g : FVec Ideal S1x1024 .f32) (w : FVec Ideal S1x1024x8216 .f32) (r : Fin 16384) (j : Fin 8216) :
    hAll x g w (ix2 r j) = proj (fun k => (shapeCast S16384x1024 x shapeCasts_S8x2048x1024_S16384x1024) (ix2 r k)) (fun k => g (ix2 0 k)) (fun k j => w (ix3 0 k j)) j := by
  unfold hAll
  rw [hProj_apply]
  refine Finset.sum_congr rfl fun k _ => congrArg (fun z : EReal => z * _) ?_
  rw [hNorm_apply]
  exact congrArg (rnorm _ · k) (funext fun k => gain_apply _ k)

theorem slice_cols {n : ℕ} (p : FVec Ideal S16384x8216 .f32) (o : ℕ) (h : Shape.Slices S16384x8216 ![0, o] ⟨2, ![16384, n]⟩) (k : Fin 16384) (l : Fin n) (hl : o + l < 8216) :
    extractStridedSlice (⟨2, ![16384, n]⟩ : Shape) ![0, o] p h (ix2 k l) = p (ix2 k ⟨o + l, hl⟩) := by
  pointwise

theorem query_cols (p : FVec Ideal S16384x8216 .f32) (k : Fin 16384) (l : Fin 512) :
    mulf (extractStridedSlice S16384x512 ![0, 0] p slices_S16384x8216_S16384x512_0_0) (broadcastInDim S16384x512 ![] bcast_S_S16384x512 (constant S_ .f32 0x3DB504F3#32)) (ix2 k l)
      = p (ix2 k ⟨l.1, by omega⟩) * Ideal.ofBits .f32 0x3DB504F3#32 := by
  pointwise

theorem hWide_apply (p : FVec Ideal S16384x8216 .f32) (r : Fin 16384) (l : Fin 8192) : hWide p (ix2 r l) = wideAt (fun j => p (ix2 r j)) l := by
  refine (concatenate_cols (α := EReal) (fun r l => wideAt (fun j => p (ix2 r j)) l) _ _ ?_ r l)
  refine ⟨512, _, rfl, fun r l h => ?_, 512, _, rfl, fun r l h => ?_, 1024, _, rfl, fun r l h => ?_, 1024, _, rfl, fun r l h => ?_, 1024, _, rfl, fun r l h => ?_,
    2048, _, rfl, fun r l h => ?_, 1024, _, rfl, fun r l h => ?_, 1024, _, rfl, fun r l h => ?_, trivial⟩
  · refine (query_cols p r l).trans ?_
    have hl := l.2
    dsimp only [wideAt, src]
    rw [if_pos (by omega)]
    refine congrArg (fun z => p (ix2 r z) * _) (Fin.ext ?_)
    dsimp only
    split_ifs <;> omega
  all_goals
    refine (slice_cols p _ _ r l (by omega)).trans ?_
    have hl := l.2
    dsimp only [wideAt, src]
    rw [if_neg (by omega)]
    refine congrArg (fun z => p (ix2 r z)) (Fin.ext ?_)
    dsimp only
    split_ifs <;> omega

theorem hGate_apply (p : FVec Ideal S16384x8216 .f32) (r : Fin 16384) (l : Fin 128) : hGate p (ix2 r l) = gateAt (fun j => p (ix2 r j)) l := by
  refine (concatenate_cols (α := EReal) (fun r l => gateAt (fun j => p (ix2 r j)) l) _ _ ?_ r l)
  refine ⟨4, _, rfl, fun r l h => ?_, 4, _, rfl, fun r l h => ?_, 16, _, rfl, fun r l h => ?_, 104, _, rfl, fun r l h => ?_, trivial⟩
  rotate_right
  · have hl := l.2
    dsimp only [gateAt]
    rw [dif_neg (by omega), dif_neg (by omega)]
    pointwise
  all_goals
    refine (slice_cols p _ _ r l (by omega)).trans ?_
    have hl := l.2
    dsimp only [gateAt]
    split_ifs
    all_goals first | omega | exact congrArg (fun z => p (ix2 r z)) (Fin.ext (by first | (dsimp only; done) | (dsimp only; omega)))

theorem wide_eq (c : Dev nD) :
    Value.res_out0 m c = truncf .bf16 (hWide (hAll (m ((c : Thread nD τ).loc main_arg0)) (m ((c : Thread nD τ).loc main_arg1)) (m ((c : Thread nD τ).loc main_arg2)))) bitsLt_bf16_f32 := rfl

theorem wide_apply (c : Dev nD) (r : Fin 16384) (l : Fin 8192) :
    Value.res_out0 m c (ix2 r l)
      = wideAt (proj (fun k => (shapeCast S16384x1024 (m ((c : Thread nD τ).loc main_arg0)) shapeCasts_S8x2048x1024_S16384x1024) (ix2 r k))
          (fun k => m ((c : Thread nD τ).loc main_arg1) (ix2 0 k)) (fun k j => m ((c : Thread nD τ).loc main_arg2) (ix3 0 k j))) l := by
  rw [wide_eq]
  refine (hWide_apply _ r l).trans (congrArg (wideAt · l) (funext fun j => ?_))
  exact hAll_apply _ _ _ r j

theorem gate_apply (c : Dev nD) (r : Fin 16384) (l : Fin 128) :
    hGate (hAll (m ((c : Thread nD τ).loc main_arg0)) (m ((c : Thread nD τ).loc main_arg1)) (m ((c : Thread nD τ).loc main_arg2))) (ix2 r l)
      = gateAt (proj (fun k => (shapeCast S16384x1024 (m ((c : Thread nD τ).loc main_arg0)) shapeCasts_S8x2048x1024_S16384x1024) (ix2 r k))
          (fun k => m ((c : Thread nD τ).loc main_arg1) (ix2 0 k)) (fun k j => m ((c : Thread nD τ).loc main_arg2) (ix3 0 k j))) l := by
  refine (hGate_apply _ r l).trans (congrArg (gateAt · l) (funext fun j => ?_))
  exact hAll_apply _ _ _ r j
end Cert.ProjRefIdeal.Rows
-- ==== Proof.Proj.Claim.lean ====
module
public import proofs.«01_k».proof.Defs
public import proofs.«01_k».proof.Proof.Proj.Ref
public import proofs.«01_k».proof.Proof.Gen.Proj.Frame
public import proofs.«01_k».proof.Proof.Gen.ProjIdeal.Frame
public import Idealize.ShloMosaic.Init
@[expose] public section
set_option maxRecDepth 16384
noncomputable section
namespace Cert.Proj
open Idealize.ShloMosaic Idealize.ShloMosaic.TcCoe Idealize.SL.Sem Cert.Rows

/-- A row of the projection from the arguments. -/
def prow (x : FVec Ideal ProjIdeal.S8x2048x1024 .f32) (g : FVec Ideal ProjIdeal.S1x1024 .f32) (w : FVec Ideal ProjIdeal.S1x1024x8216 .f32) (r : Fin 16384) : Fin 8216 → EReal :=
  proj (fun k => (shapeCast ProjIdeal.S16384x1024 x ProjIdeal.Gen.shapeCasts_S8x2048x1024_S16384x1024) (ix2 r k)) (fun k => g (ix2 0 k)) (fun k j => w (ix3 0 k j))

/-- The wide result, element by element. -/
def Gw (x : FVec Ideal ProjIdeal.S8x2048x1024 .f32) (g : FVec Ideal ProjIdeal.S1x1024 .f32) (w : FVec Ideal ProjIdeal.S1x1024x8216 .f32) (y : ProjIdeal.S16384x8192.Idx) : EReal :=
  wideAt (prow x g w (y 0)) (y 1)

/-- The gates' result, element by element. -/
def Gg (x : FVec Ideal ProjIdeal.S8x2048x1024 .f32) (g : FVec Ideal ProjIdeal.S1x1024 .f32) (w : FVec Ideal ProjIdeal.S1x1024x8216 .f32) (y : ProjIdeal.S16384x128.Idx) : EReal :=
  gateAt (prow x g w (y 0)) (y 1)

section Kernel
variable (m : (ℓ : Loc ProjIdeal.nD ProjIdeal.τ ProjIdeal.sig) → Buf (Elt Ideal) ℓ) (c : Dev ProjIdeal.nD)

/-- A row of the block's product with the rearranged weights is the projection's row rearranged. -/
theorem gateAt_sum (p : Fin 1024 → EReal) (w : Fin 1024 → Fin 8216 → EReal) (l : Fin 128) :
    ∑ k, p k * gateAt (w k) l = gateAt (fun j => ∑ k, p k * w k j) l := by
  unfold gateAt
  split_ifs
  · rfl
  · rfl
  · simp

theorem wcol_wide (q : Fin 8216 → EReal) (l : Fin 8192) : wcol q ⟨l.1, by omega⟩ = q (src l) := dif_pos l.2

theorem wcol_gate (q : Fin 8216 → EReal) (l : Fin 128) : wcol q ⟨8192 + l.1, by omega⟩ = gateAt q l :=
  (dif_neg (by dsimp only; omega)).trans (congrArg (gateAt q) (Fin.ext (Nat.add_sub_cancel_left _ _)))

theorem block_row (t : Fin ProjIdeal.cfg0.N) (r : Fin 512) (k : Fin 1024) :
    ProjIdeal.Gen.k0_pay3 (F := Ideal) (ProjIdeal.Gen.iblk m c 0 t) (ProjIdeal.Gen.iblk m c 1 t) (ix2 r k)
      = rnorm (fun k => (shapeCast ProjIdeal.S16384x1024 (m ((c : Thread ProjIdeal.nD ProjIdeal.τ).loc ProjIdeal.main_arg0)) ProjIdeal.Gen.shapeCasts_S8x2048x1024_S16384x1024) (ix2 ⟨t.1 * 512 + r.1, ProjIdeal.Blocks.lt_rows t r⟩ k))
          (fun k => m ((c : Thread ProjIdeal.nD ProjIdeal.τ).loc ProjIdeal.main_arg1) (ix2 0 k)) k := by
  refine (ProjIdeal.Blocks.pay3_apply _ _ r k).trans ?_
  have e0 : (fun k => ProjIdeal.Gen.iblk m c 0 t (ix2 r k)) = _ := funext fun k => ProjIdeal.Blocks.iblk0 m c t r k
  have e1 : (fun k => ProjIdeal.Gen.iblk m c 1 t (ix2 0 k)) = _ := funext fun k => ProjIdeal.Blocks.iblk1 m c t k
  rw [e0, e1]

theorem wide_eq : (ProjIdeal.Gen.dats m 0 c).arrAt 3 ProjIdeal.cfg0.N
      = Gw (m ((c : Thread ProjIdeal.nD ProjIdeal.τ).loc ProjIdeal.main_arg0)) (m ((c : Thread ProjIdeal.nD ProjIdeal.τ).loc ProjIdeal.main_arg1)) (m ((c : Thread ProjIdeal.nD ProjIdeal.τ).loc ProjIdeal.main_arg2)) := by
  refine ProjIdeal.Blocks.arr_wide m c _ fun t y => ?_
  idx_vars y
  have e (j : Fin 8192) : (∑ k : Fin 1024, ProjIdeal.Gen.k0_pay3 (F := Ideal) (ProjIdeal.Gen.iblk m c 0 t) (ProjIdeal.Gen.iblk m c 1 t) (ix2 y0 k) * ProjIdeal.Gen.iblk m c 2 t (ix2 k ⟨j.1, by omega⟩))
      = prow (m ((c : Thread ProjIdeal.nD ProjIdeal.τ).loc ProjIdeal.main_arg0)) (m ((c : Thread ProjIdeal.nD ProjIdeal.τ).loc ProjIdeal.main_arg1)) (m ((c : Thread ProjIdeal.nD ProjIdeal.τ).loc ProjIdeal.main_arg2)) ⟨t.1 * 512 + y0.1, ProjIdeal.Blocks.lt_rows t y0⟩ (src j) := by
    unfold prow proj
    refine Finset.sum_congr rfl fun k _ => ?_
    rw [block_row m c t y0 k, ProjIdeal.Blocks.iblk2 m c t k, wcol_wide]
  dsimp only [ProjIdeal.Blocks.wideV, Gw, wideAt]
  exact ite_congr rfl (fun _ => congrArg (fun z : EReal => z * _) (e y1)) (fun _ => e y1)

theorem gate_eq : (ProjIdeal.Gen.dats m 0 c).arrAt 4 ProjIdeal.cfg0.N
      = Gg (m ((c : Thread ProjIdeal.nD ProjIdeal.τ).loc ProjIdeal.main_arg0)) (m ((c : Thread ProjIdeal.nD ProjIdeal.τ).loc ProjIdeal.main_arg1)) (m ((c : Thread ProjIdeal.nD ProjIdeal.τ).loc ProjIdeal.main_arg2)) := by
  refine ProjIdeal.Blocks.arr_gate m c _ fun t r l => ?_
  unfold Gg prow proj
  refine Eq.trans ?_ (gateAt_sum _ _ _)
  refine Finset.sum_congr rfl fun k _ => ?_
  rw [block_row m c t r k, ProjIdeal.Blocks.iblk2 m c t k, wcol_gate]
  rfl
end Kernel

theorem frame_ref : Cert.quiescent_ProjRefIdeal (hProjRefIdeal := ProjRefIdeal.Gen.facts) := fun m g _ =>
  (θ_run ProjRefIdeal.defs _ _).mono (fun r h => ⟨fun c => (h c).2.2, sem_eq_zero_of_no_sems (by decide) r.2⟩) (ProjRefIdeal.Value.run (F := Ideal) m g)

theorem algebraic : Cert.algebraic_ProjIdeal_ProjRefIdeal (hProjIdeal := ProjIdeal.Gen.facts) (hProjRefIdeal := ProjRefIdeal.Gen.facts) := by
  intro m g m' g' _ hag
  refine ⟨fun c => (ProjIdeal.Gen.dats m 0 c).arrAt 3 ProjIdeal.cfg0.N, fun c => (ProjIdeal.Gen.dats m 0 c).arrAt 4 ProjIdeal.cfg0.N, ProjIdeal.Value.run_blocks m g,
    (θ_run ProjRefIdeal.defs _ _).mono (fun r h c => ⟨(h c).1.trans ?_, (h c).2.1.trans ?_, (h c).2.2⟩) (ProjRefIdeal.Value.run (F := Ideal) m' g')⟩
  · refine Eq.trans (b := Gw (m' ((c : Thread ProjRefIdeal.nD ProjRefIdeal.τ).loc ProjRefIdeal.main_arg0)) (m' ((c : Thread ProjRefIdeal.nD ProjRefIdeal.τ).loc ProjRefIdeal.main_arg1)) (m' ((c : Thread ProjRefIdeal.nD ProjRefIdeal.τ).loc ProjRefIdeal.main_arg2))) ?_ ?_
    · funext y
      idx_vars y
      exact ProjRefIdeal.Rows.wide_apply m' c y0 y1
    rw [(hag c).1, (hag c).2.1, (hag c).2.2]
    exact (wide_eq m c).symm
  · refine Eq.trans (b := Gg (m' ((c : Thread ProjRefIdeal.nD ProjRefIdeal.τ).loc ProjRefIdeal.main_arg0)) (m' ((c : Thread ProjRefIdeal.nD ProjRefIdeal.τ).loc ProjRefIdeal.main_arg1)) (m' ((c : Thread ProjRefIdeal.nD ProjRefIdeal.τ).loc ProjRefIdeal.main_arg2))) ?_ ?_
    · funext y
      idx_vars y
      exact ProjRefIdeal.Rows.gate_apply m' c y0 y1
    rw [(hag c).1, (hag c).2.1, (hag c).2.2]
    exact (gate_eq m c).symm
end Cert.Proj
-- ==== Proof.Mixer.Trip.lean ====
module

public import proofs.«01_k».proof.Proof.Gen.MixerIdeal.Loops
public import proofs.«01_k».proof.Proof.Gen.MixerIdeal.Frame

@[expose] public section

set_option maxRecDepth 16384

noncomputable section

namespace Cert.MixerIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixerIdeal.Gen

variable {F : FTy → Type} [FloatOps F]

/-- The resource algebra of the runs. -/
local notation "𝕄" => MT nD τ sig Unit (Elt F) ℕ (UR sig nD τ) ℕ

/-- What the chunk loop holds: the blocks it reads at their contents, the carried state and the chunk buffers at some. -/
abbrev Held (c : Dev nD) (arg2 : Memref sig .tc .vmem S512x8192 .bf16) (arg3 : Memref sig .tc .vmem S512x128 .f32) (arg5 : Memref sig .tc .vmem S1x128 .f32) (arg6 : Memref sig .tc .vmem S1x128 .f32) (arg7 : Memref sig .tc .vmem S1x1024 .f32) (arg8 : Memref sig .tc .vmem S1x1024 .f32) (arg9 : Memref sig .tc .vmem S1x1024 .f32) (arg10 : Memref sig .tc .vmem S8x2048 .f32) (arg11 : Memref sig .tc .vmem S1x2048 .f32) (arg21 : Memref sig .tc .vmem S4x128x256 .f32) (arg22 : Memref sig .tc .vmem S8x128 .f32) (arg23 : Memref sig .tc .vmem S8x128 .f32) (arg24 : Memref sig .tc .vmem S4x128x256 .f32) (arg25 : Memref sig .tc .vmem S8x2048 .f32) (arg26 : Memref sig .tc .vmem S128x2048 .f32) (arg27 : Memref sig .tc .vmem S512x1024 .bf16) (arg28 : Memref sig .tc .vmem S512x1024 .bf16) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) : sProp 𝕄 :=
  iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)))

set_option maxHeartbeats 8000000 in
/-- One trip of the chunk loop: it keeps the blocks it reads and leaves the buffers it writes. -/
theorem trip (c : Dev nD) (i : grid0.Coords) (arg2 : Memref sig .tc .vmem S512x8192 .bf16) (harg2 : arg2.IsWhole) (arg3 : Memref sig .tc .vmem S512x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S8x2048 .f32) (harg10 : arg10.IsWhole) (arg11 : Memref sig .tc .vmem S1x2048 .f32) (harg11 : arg11.IsWhole) (arg12 : Memref sig .tc .vmem S4x128x256 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S4x128x256 .f32) (harg15 : arg15.IsWhole) (arg16 : Memref sig .tc .vmem S8x2048 .f32) (harg16 : arg16.IsWhole) (arg17 : Memref sig .tc .vmem S1024x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S512x1024 .f32) (harg20 : arg20.IsWhole) (arg21 : Memref sig .tc .vmem S4x128x256 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S4x128x256 .f32) (harg24 : arg24.IsWhole) (arg25 : Memref sig .tc .vmem S8x2048 .f32) (harg25 : arg25.IsWhole) (arg26 : Memref sig .tc .vmem S128x2048 .f32) (harg26 : arg26.IsWhole) (arg27 : Memref sig .tc .vmem S512x1024 .bf16) (harg27 : arg27.IsWhole) (arg28 : Memref sig .tc .vmem S512x1024 .bf16) (harg28 : arg28.IsWhole) (arg29 : Memref sig .tc .vmem S512x1024 .bf16) (harg29 : arg29.IsWhole)
    (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (k : Fin k0_t1_loop.trips) (E : Set ℕ) :
    ((Held (F := F) c arg2 arg3 arg5 arg6 arg7 arg8 arg9 arg10 arg11 arg21 arg22 arg23 arg24 arg25 arg26 arg27 arg28 X2 X3 X5 X6 X7 X8 X9 X10 X11) : sProp 𝕄)
    ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k PUnit.unit)
        (fun _ => Held (F := F) c arg2 arg3 arg5 arg6 arg7 arg8 arg9 arg10 arg11 arg21 arg22 arg23 arg24 arg25 arg26 arg27 arg28 X2 X3 X5 X6 X7 X8 X9 X10 X11) := by
  have hk : k.val < 4 := Nat.lt_of_lt_of_le k.isLt k0_t1_abs.2.1
  unfold k0_t1_body
  simp only [k0_part44_eq_skeleton]; unfold k0_part44_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel
  iintro ⟨H2, H3, H5, H6, H7, H8, H9, H10, H11, ⟨%f21, H21⟩, ⟨%f22, H22⟩, ⟨%f23, H23⟩, ⟨%f24, H24⟩, ⟨%f25, H25⟩, ⟨%f26, H26⟩, ⟨%f27, H27⟩, ⟨%f28, H28⟩⟩
  sl_exec
  sl_step
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iexists _; iexact H28

set_option maxHeartbeats 2000000 in
set_option warn.classDefReducibility false in
/-- The chunk loop by its invariant: the blocks read at their contents, the buffers written at some. -/
@[sl_loop] def loopInv (c : Dev nD) (E : Set ℕ) (i : grid0.Coords) (arg2 : Memref sig .tc .vmem S512x8192 .bf16) (harg2 : arg2.IsWhole) (arg3 : Memref sig .tc .vmem S512x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S8x2048 .f32) (harg10 : arg10.IsWhole) (arg11 : Memref sig .tc .vmem S1x2048 .f32) (harg11 : arg11.IsWhole) (arg12 : Memref sig .tc .vmem S4x128x256 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S4x128x256 .f32) (harg15 : arg15.IsWhole) (arg16 : Memref sig .tc .vmem S8x2048 .f32) (harg16 : arg16.IsWhole) (arg17 : Memref sig .tc .vmem S1024x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S512x1024 .f32) (harg20 : arg20.IsWhole) (arg21 : Memref sig .tc .vmem S4x128x256 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S4x128x256 .f32) (harg24 : arg24.IsWhole) (arg25 : Memref sig .tc .vmem S8x2048 .f32) (harg25 : arg25.IsWhole) (arg26 : Memref sig .tc .vmem S128x2048 .f32) (harg26 : arg26.IsWhole) (arg27 : Memref sig .tc .vmem S512x1024 .bf16) (harg27 : arg27.IsWhole) (arg28 : Memref sig .tc .vmem S512x1024 .bf16) (harg28 : arg28.IsWhole) (arg29 : Memref sig .tc .vmem S512x1024 .bf16) (harg29 : arg29.IsWhole)
    (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 where
  inv _ _ := Held (F := F) c arg2 arg3 arg5 arg6 arg7 arg8 arg9 arg10 arg11 arg21 arg22 arg23 arg24 arg25 arg26 arg27 arg28 X2 X3 X5 X6 X7 X8 X9 X10 X11
  step k _ := trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X2 X3 X5 X6 X7 X8 X9 X10 X11 k E

end Cert.MixerIdeal

end
-- ==== Proof.Mixer.Body.lean ====
module

public import proofs.«01_k».proof.Proof.Mixer.Trip
public import proofs.«01_k».proof.Proof.Gen.MixerIdeal.Frame

@[expose] public section

set_option maxRecDepth 16384

noncomputable section

namespace Cert.MixerIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Gen

variable {F : FTy → Type} [FloatOps F]

/-- The resource algebra of the runs. -/
local notation "𝕄" => MT nD τ sig Unit (Elt F) ℕ (UR sig nD τ) ℕ

/-- The condition of the kernel's one branch: the first point of a sequence's row of points. -/
abbrev atStart (i : grid0.Coords) : Prop :=
  (Scalar.cmpi .ne (Scalar.extui (Scalar.cmpi .eq (BitVec.ofNat 32 (i 1).val) 0#32)) 0#32) = 1#1

set_option maxHeartbeats 16000000 in
/-- The kernel body at one point: it keeps its input blocks and leaves the output block and the scratch buffers at some contents. -/
theorem bodyRun (c : Dev nD) (i : grid0.Coords) (arg2 : Memref sig .tc .vmem S512x8192 .bf16) (harg2 : arg2.IsWhole) (arg3 : Memref sig .tc .vmem S512x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S8x2048 .f32) (harg10 : arg10.IsWhole) (arg11 : Memref sig .tc .vmem S1x2048 .f32) (harg11 : arg11.IsWhole) (arg12 : Memref sig .tc .vmem S4x128x256 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S4x128x256 .f32) (harg15 : arg15.IsWhole) (arg16 : Memref sig .tc .vmem S8x2048 .f32) (harg16 : arg16.IsWhole) (arg17 : Memref sig .tc .vmem S1024x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S512x1024 .f32) (harg20 : arg20.IsWhole) (arg21 : Memref sig .tc .vmem S4x128x256 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S4x128x256 .f32) (harg24 : arg24.IsWhole) (arg25 : Memref sig .tc .vmem S8x2048 .f32) (harg25 : arg25.IsWhole) (arg26 : Memref sig .tc .vmem S128x2048 .f32) (harg26 : arg26.IsWhole) (arg27 : Memref sig .tc .vmem S512x1024 .bf16) (harg27 : arg27.IsWhole) (arg28 : Memref sig .tc .vmem S512x1024 .bf16) (harg28 : arg28.IsWhole) (arg29 : Memref sig .tc .vmem S512x1024 .bf16) (harg29 : arg29.IsWhole)
    (x2 : Vec F S512x8192 .bf16) (x3 : Vec F S512x128 .f32) (x4 : Vec F S512x1024 .f32) (x5 : Vec F S1x128 .f32) (x6 : Vec F S1x128 .f32) (x7 : Vec F S1x1024 .f32) (x8 : Vec F S1x1024 .f32) (x9 : Vec F S1x1024 .f32) (x10 : Vec F S8x2048 .f32) (x11 : Vec F S1x2048 .f32) (x12 : Vec F S4x128x256 .f32) (x13 : Vec F S8x128 .f32) (x14 : Vec F S8x128 .f32) (x15 : Vec F S4x128x256 .f32) (x16 : Vec F S8x2048 .f32) (x17 : Vec F S1024x1024 .bf16) (x18 : Vec F S1024x1024 .bf16) (x19 : Vec F S1024x1024 .bf16) (E : Set ℕ) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩)) : sProp 𝕄)
    ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_mixer_eq_skeleton]; unfold cc0_mixer_skel
  simp only [k0_part45_eq_skeleton, k0_part46_eq_skeleton, k0_part47_eq_skeleton]
  unfold k0_part45_skel k0_part46_skel k0_part47_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
  clear hf2 hf3 hf4 hf5 hf6 hf7 hf8 hf9 hf10 hf11 hf12 hf13 hf14 hf15 hf16 hf17 hf18 hf19
  by_cases hc : atStart i
  · sl_exec (disch := first | sl_exact hc)
    simp only [bind_assoc]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    iexists _, _; isplitr; swap; · iexact H29
    ipureintro; rfl
  · sl_exec (disch := first | sl_exact hc)
    simp only [bind_assoc]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    iexists _, _; isplitr; swap; · iexact H29
    ipureintro; rfl

end Cert.MixerIdeal

end
-- ==== Proof.Mixer.Launch.lean ====
module

public import proofs.«01_k».proof.Proof.Mixer.Body
public import proofs.«01_k».proof.Proof.Gen.MixerIdeal.Frame

@[expose] public section

set_option maxRecDepth 16384

noncomputable section

namespace Cert.MixerIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Gen

variable {F : FTy → Type} [FloatOps F]

/-- The resource algebra of the runs. -/
local notation "𝕄" => MT nD τ sig Unit (Elt F) ℕ (UR sig nD τ) ℕ

variable (m : (ℓ : Loc nD τ sig) → Buf (Elt F) ℓ) (ρ : Dev nD → PrngReg)

/-! ## The staging and scratch memrefs -/
/-- Window 0's current staging memref at point `t`, and its wholeness. -/
abbrev st0 (t : Fin cfg0.N) : Memref sig .tc .vmem S512x8192 .bf16 := win0_0.stage (cfg0.slots t 0)
theorem hst0 (t : Fin cfg0.N) : (st0 t).IsWhole := hstage0_0 ((cfg0.slots t 0).cast nbuf0_0)
/-- Window 1's current staging memref at point `t`, and its wholeness. -/
abbrev st1 (t : Fin cfg0.N) : Memref sig .tc .vmem S512x128 .f32 := win0_1.stage (cfg0.slots t 1)
theorem hst1 (t : Fin cfg0.N) : (st1 t).IsWhole := hstage0_1 ((cfg0.slots t 1).cast nbuf0_1)
/-- Window 2's current staging memref at point `t`, and its wholeness. -/
abbrev st2 (t : Fin cfg0.N) : Memref sig .tc .vmem S512x1024 .f32 := win0_2.stage (cfg0.slots t 2)
theorem hst2 (t : Fin cfg0.N) : (st2 t).IsWhole := hstage0_2 ((cfg0.slots t 2).cast nbuf0_2)
/-- Window 3's current staging memref at point `t`, and its wholeness. -/
abbrev st3 (t : Fin cfg0.N) : Memref sig .tc .vmem S1x128 .f32 := win0_3.stage (cfg0.slots t 3)
theorem hst3 (t : Fin cfg0.N) : (st3 t).IsWhole := hstage0_3 ((cfg0.slots t 3).cast nbuf0_3)
/-- Window 4's current staging memref at point `t`, and its wholeness. -/
abbrev st4 (t : Fin cfg0.N) : Memref sig .tc .vmem S1x128 .f32 := win0_4.stage (cfg0.slots t 4)
theorem hst4 (t : Fin cfg0.N) : (st4 t).IsWhole := hstage0_4 ((cfg0.slots t 4).cast nbuf0_4)
/-- Window 5's current staging memref at point `t`, and its wholeness. -/
abbrev st5 (t : Fin cfg0.N) : Memref sig .tc .vmem S1x1024 .f32 := win0_5.stage (cfg0.slots t 5)
theorem hst5 (t : Fin cfg0.N) : (st5 t).IsWhole := hstage0_5 ((cfg0.slots t 5).cast nbuf0_5)
/-- Window 6's current staging memref at point `t`, and its wholeness. -/
abbrev st6 (t : Fin cfg0.N) : Memref sig .tc .vmem S1x1024 .f32 := win0_6.stage (cfg0.slots t 6)
theorem hst6 (t : Fin cfg0.N) : (st6 t).IsWhole := hstage0_6 ((cfg0.slots t 6).cast nbuf0_6)
/-- Window 7's current staging memref at point `t`, and its wholeness. -/
abbrev st7 (t : Fin cfg0.N) : Memref sig .tc .vmem S1x1024 .f32 := win0_7.stage (cfg0.slots t 7)
theorem hst7 (t : Fin cfg0.N) : (st7 t).IsWhole := hstage0_7 ((cfg0.slots t 7).cast nbuf0_7)
/-- Window 8's current staging memref at point `t`, and its wholeness. -/
abbrev st8 (t : Fin cfg0.N) : Memref sig .tc .vmem S8x2048 .f32 := win0_8.stage (cfg0.slots t 8)
theorem hst8 (t : Fin cfg0.N) : (st8 t).IsWhole := hstage0_8 ((cfg0.slots t 8).cast nbuf0_8)
/-- Window 9's current staging memref at point `t`, and its wholeness. -/
abbrev st9 (t : Fin cfg0.N) : Memref sig .tc .vmem S1x2048 .f32 := win0_9.stage (cfg0.slots t 9)
theorem hst9 (t : Fin cfg0.N) : (st9 t).IsWhole := hstage0_9 ((cfg0.slots t 9).cast nbuf0_9)
/-- Window 10's current staging memref at point `t`, and its wholeness. -/
abbrev st10 (t : Fin cfg0.N) : Memref sig .tc .vmem S4x128x256 .f32 := win0_10.stage (cfg0.slots t 10)
theorem hst10 (t : Fin cfg0.N) : (st10 t).IsWhole := hstage0_10 ((cfg0.slots t 10).cast nbuf0_10)
/-- Window 11's current staging memref at point `t`, and its wholeness. -/
abbrev st11 (t : Fin cfg0.N) : Memref sig .tc .vmem S8x128 .f32 := win0_11.stage (cfg0.slots t 11)
theorem hst11 (t : Fin cfg0.N) : (st11 t).IsWhole := hstage0_11 ((cfg0.slots t 11).cast nbuf0_11)
/-- Window 12's current staging memref at point `t`, and its wholeness. -/
abbrev st12 (t : Fin cfg0.N) : Memref sig .tc .vmem S8x128 .f32 := win0_12.stage (cfg0.slots t 12)
theorem hst12 (t : Fin cfg0.N) : (st12 t).IsWhole := hstage0_12 ((cfg0.slots t 12).cast nbuf0_12)
/-- Window 13's current staging memref at point `t`, and its wholeness. -/
abbrev st13 (t : Fin cfg0.N) : Memref sig .tc .vmem S4x128x256 .f32 := win0_13.stage (cfg0.slots t 13)
theorem hst13 (t : Fin cfg0.N) : (st13 t).IsWhole := hstage0_13 ((cfg0.slots t 13).cast nbuf0_13)
/-- Window 14's current staging memref at point `t`, and its wholeness. -/
abbrev st14 (t : Fin cfg0.N) : Memref sig .tc .vmem S8x2048 .f32 := win0_14.stage (cfg0.slots t 14)
theorem hst14 (t : Fin cfg0.N) : (st14 t).IsWhole := hstage0_14 ((cfg0.slots t 14).cast nbuf0_14)
/-- Window 15's current staging memref at point `t`, and its wholeness. -/
abbrev st15 (t : Fin cfg0.N) : Memref sig .tc .vmem S1024x1024 .bf16 := win0_15.stage (cfg0.slots t 15)
theorem hst15 (t : Fin cfg0.N) : (st15 t).IsWhole := hstage0_15 ((cfg0.slots t 15).cast nbuf0_15)
/-- Window 16's current staging memref at point `t`, and its wholeness. -/
abbrev st16 (t : Fin cfg0.N) : Memref sig .tc .vmem S1024x1024 .bf16 := win0_16.stage (cfg0.slots t 16)
theorem hst16 (t : Fin cfg0.N) : (st16 t).IsWhole := hstage0_16 ((cfg0.slots t 16).cast nbuf0_16)
/-- Window 17's current staging memref at point `t`, and its wholeness. -/
abbrev st17 (t : Fin cfg0.N) : Memref sig .tc .vmem S1024x1024 .bf16 := win0_17.stage (cfg0.slots t 17)
theorem hst17 (t : Fin cfg0.N) : (st17 t).IsWhole := hstage0_17 ((cfg0.slots t 17).cast nbuf0_17)
/-- Window 18's current staging memref at point `t`, and its wholeness. -/
abbrev st18 (t : Fin cfg0.N) : Memref sig .tc .vmem S512x1024 .f32 := win0_18.stage (cfg0.slots t 18)
theorem hst18 (t : Fin cfg0.N) : (st18 t).IsWhole := hstage0_18 ((cfg0.slots t 18).cast nbuf0_18)
/-- Scratch buffer 0, as a memref. -/
abbrev sc0 : Memref sig .tc .vmem S4x128x256 .f32 := Memref.whole cc0_scratch0
/-- Scratch buffer 1, as a memref. -/
abbrev sc1 : Memref sig .tc .vmem S8x128 .f32 := Memref.whole cc0_scratch1
/-- Scratch buffer 2, as a memref. -/
abbrev sc2 : Memref sig .tc .vmem S8x128 .f32 := Memref.whole cc0_scratch2
/-- Scratch buffer 3, as a memref. -/
abbrev sc3 : Memref sig .tc .vmem S4x128x256 .f32 := Memref.whole cc0_scratch3
/-- Scratch buffer 4, as a memref. -/
abbrev sc4 : Memref sig .tc .vmem S8x2048 .f32 := Memref.whole cc0_scratch4
/-- Scratch buffer 5, as a memref. -/
abbrev sc5 : Memref sig .tc .vmem S128x2048 .f32 := Memref.whole cc0_scratch5
/-- Scratch buffer 6, as a memref. -/
abbrev sc6 : Memref sig .tc .vmem S512x1024 .bf16 := Memref.whole cc0_scratch6
/-- Scratch buffer 7, as a memref. -/
abbrev sc7 : Memref sig .tc .vmem S512x1024 .bf16 := Memref.whole cc0_scratch7
/-- Scratch buffer 8, as a memref. -/
abbrev sc8 : Memref sig .tc .vmem S512x1024 .bf16 := Memref.whole cc0_scratch8

/-- The scratch buffers owned at some contents, beside the generator register: what the region carries between points. -/
theorem carried_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ (∃ r, prngReg c r)) := by
  unfold Pipeline.ΦA; rw [scopedRest0_eq]; simp only [sc0, sc1, sc2, sc3, sc4, sc5, sc6, sc7, sc8, owns_whole]; try rfl

/-- The output window, whose contents nothing here names. -/
def unnamedOut : Fin 19 → Bool := fun w => w.val == 18

/-- The proof data of the pipeline: each input's buffer at its block, the output unnamed, the scratch at any contents. -/
def dats (_ : Fin 1) (c : Dev nD) : Dat τ (Elt F) Unit ℕ (UR sig nD τ) ℕ cfg0 c where
  A w := V m c (Pipeline.arrRef spec0 w)
  after w t := match (w : Fin 19) with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨n + 19, h⟩ => absurd (show n + 19 < 19 from h) (Nat.not_lt.mpr (Nat.le_add_left 19 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before0_10_of m (dats m 0 c) (A_eq m c 10) (after10 m c) t d
theorem after11 (c : Dev nD) (t : Fin cfg0.N) : (dats m 0 c).after 11 t = iblk m c 11 t := by dsimp only [dats]
theorem before11 (c : Dev nD) (t : Fin cfg0.N) (d) : (dats m 0 c).before 11 t d = iblk m c 11 t :=
  before0_11_of m (dats m 0 c) (A_eq m c 11) (after11 m c) t d
theorem after12 (c : Dev nD) (t : Fin cfg0.N) : (dats m 0 c).after 12 t = iblk m c 12 t := by dsimp only [dats]
theorem before12 (c : Dev nD) (t : Fin cfg0.N) (d) : (dats m 0 c).before 12 t d = iblk m c 12 t :=
  before0_12_of m (dats m 0 c) (A_eq m c 12) (after12 m c) t d
theorem after13 (c : Dev nD) (t : Fin cfg0.N) : (dats m 0 c).after 13 t = iblk m c 13 t := by dsimp only [dats]
theorem before13 (c : Dev nD) (t : Fin cfg0.N) (d) : (dats m 0 c).before 13 t d = iblk m c 13 t :=
  before0_13_of m (dats m 0 c) (A_eq m c 13) (after13 m c) t d
theorem after14 (c : Dev nD) (t : Fin cfg0.N) : (dats m 0 c).after 14 t = iblk m c 14 t := by dsimp only [dats]
theorem before14 (c : Dev nD) (t : Fin cfg0.N) (d) : (dats m 0 c).before 14 t d = iblk m c 14 t :=
  before0_14_of m (dats m 0 c) (A_eq m c 14) (after14 m c) t d
theorem after15 (c : Dev nD) (t : Fin cfg0.N) : (dats m 0 c).after 15 t = iblk m c 15 t := by dsimp only [dats]
theorem before15 (c : Dev nD) (t : Fin cfg0.N) (d) : (dats m 0 c).before 15 t d = iblk m c 15 t :=
  before0_15_of m (dats m 0 c) (A_eq m c 15) (after15 m c) t d
theorem after16 (c : Dev nD) (t : Fin cfg0.N) : (dats m 0 c).after 16 t = iblk m c 16 t := by dsimp only [dats]
theorem before16 (c : Dev nD) (t : Fin cfg0.N) (d) : (dats m 0 c).before 16 t d = iblk m c 16 t :=
  before0_16_of m (dats m 0 c) (A_eq m c 16) (after16 m c) t d
theorem after17 (c : Dev nD) (t : Fin cfg0.N) : (dats m 0 c).after 17 t = iblk m c 17 t := by dsimp only [dats]
theorem before17 (c : Dev nD) (t : Fin cfg0.N) (d) : (dats m 0 c).before 17 t d = iblk m c 17 t :=
  before0_17_of m (dats m 0 c) (A_eq m c 17) (after17 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)) ∗ (∃ d, owns (c : Thread nD τ) (st7 t) fullShare ((dats m 0 c).before 7 t d)) ∗ (∃ d, owns (c : Thread nD τ) (st8 t) fullShare ((dats m 0 c).before 8 t d)) ∗ (∃ d, owns (c : Thread nD τ) (st9 t) fullShare ((dats m 0 c).before 9 t d)) ∗ (∃ d, owns (c : Thread nD τ) (st10 t) fullShare ((dats m 0 c).before 10 t d)) ∗ (∃ d, owns (c : Thread nD τ) (st11 t) fullShare ((dats m 0 c).before 11 t d)) ∗ (∃ d, owns (c : Thread nD τ) (st12 t) fullShare ((dats m 0 c).before 12 t d)) ∗ (∃ d, owns (c : Thread nD τ) (st13 t) fullShare ((dats m 0 c).before 13 t d)) ∗ (∃ d, owns (c : Thread nD τ) (st14 t) fullShare ((dats m 0 c).before 14 t d)) ∗ (∃ d, owns (c : Thread nD τ) (st15 t) fullShare ((dats m 0 c).before 15 t d)) ∗ (∃ d, owns (c : Thread nD τ) (st16 t) fullShare ((dats m 0 c).before 16 t d)) ∗ (∃ d, owns (c : Thread nD τ) (st17 t) fullShare ((dats m 0 c).before 17 t d))
    ∗ (∃ d, owns (c : Thread nD τ) (st18 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t) ∗ owns (c : Thread nD τ) (st1 t) fullShare ((dats m 0 c).after 1 t) ∗ owns (c : Thread nD τ) (st2 t) fullShare ((dats m 0 c).after 2 t) ∗ owns (c : Thread nD τ) (st3 t) fullShare ((dats m 0 c).after 3 t) ∗ owns (c : Thread nD τ) (st4 t) fullShare ((dats m 0 c).after 4 t) ∗ owns (c : Thread nD τ) (st5 t) fullShare ((dats m 0 c).after 5 t) ∗ owns (c : Thread nD τ) (st6 t) fullShare ((dats m 0 c).after 6 t) ∗ owns (c : Thread nD τ) (st7 t) fullShare ((dats m 0 c).after 7 t) ∗ owns (c : Thread nD τ) (st8 t) fullShare ((dats m 0 c).after 8 t) ∗ owns (c : Thread nD τ) (st9 t) fullShare ((dats m 0 c).after 9 t) ∗ owns (c : Thread nD τ) (st10 t) fullShare ((dats m 0 c).after 10 t) ∗ owns (c : Thread nD τ) (st11 t) fullShare ((dats m 0 c).after 11 t) ∗ owns (c : Thread nD τ) (st12 t) fullShare ((dats m 0 c).after 12 t) ∗ owns (c : Thread nD τ) (st13 t) fullShare ((dats m 0 c).after 13 t) ∗ owns (c : Thread nD τ) (st14 t) fullShare ((dats m 0 c).after 14 t) ∗ owns (c : Thread nD τ) (st15 t) fullShare ((dats m 0 c).after 15 t) ∗ owns (c : Thread nD τ) (st16 t) fullShare ((dats m 0 c).after 16 t) ∗ owns (c : Thread nD τ) (st17 t) fullShare ((dats m 0 c).after 17 t)
    ∗ (∃ d, owns (c : Thread nD τ) (st18 t) fullShare d))

set_option maxHeartbeats 3200000 in
/-- The body at any point. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17]
  rw [show (dats m 0 c).owesAt () t.succ = (dats m 0 c).owesAt () t.castSucc from rfl,
    after0, after1, after2, after3, after4, after5, after6, after7, after8, after9, after10, after11, after12, after13, after14, after15, after16, after17]
  rw [show (dats m 0 c).Φ t.castSucc = Pipeline.ΦA spec0 c from rfl, show (dats m 0 c).Φ t.succ = Pipeline.ΦA spec0 c from rfl, carried_eq]
  iintro ⟨⟨⟨S0, S1, S2, S3, S4, S5, S6, S7, S8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (bodyRun c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, H11, H12, H13, H14, H15, H16, H17, H18, S0, S1, S2, S3, S4, S5, S6, S7, S8⟩
  isplitl [S0 S1 S2 S3 S4 S5 S6 S7 S8 Hg]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body at that point. -/
theorem row_eq (t : Fin cfg0.N) :
    defs₀ (F := F) .tc cfg0.body (cfg0.bodyArgs t (cfg0.slots t)) = bodyAt0 t := by
  unfold defs₀; rw [Defs.onTc_tc]

/-- The pipeline's body obligation, at every point. -/
theorem body_met (c : Dev nD) : BodyObligation (dats (F := F) m 0 c) (defs₀ (F := F)) Variants.none () Set.univ unnamedOut := fun t => by
  rw [bigSep_W0, bigSep_W0, row_eq]
  exact triple_restated (body_sound m c t) rfl .rfl fun _ => .rfl

/-! ## The run -/

set_option backward.isDefEq.respectTransparency.types false in
/-- The launch: every execution ends, the input arrays unchanged and every counter at zero. -/
theorem run_all : θ_run defs (onTc (τ := τ) (main (F := F))) (s₀ m ρ) (fun r => (Pipeline.RDat.FramePost (cfgs 0) (fun c => (dats m 0 c).toRForget unnamedOut) (V m)) r ∧ r.2.sem = fun _ => 0) :=
  Pipeline.θ_run_frame_track_forget (Q' := _) cfgs (dats m) (0 : Fin 1) launch0 defs₀ Variants.none unnamedOut m ρ main
    (hbody := fun c => (body_met m c).loose) (hshare := fun c => (dats m 0 c).share_full fun _ => rfl)
    (howed := fun _ _ => rfl) (V := V m) (hmain := hmain m Variants.none) (hA := A_eq m) (hin := fun _ => .rfl) (hout := fun _ => .rfl)

/-- The frame: every execution ends, the argument arrays unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => ⟨(Pipeline.RDat.FramePost.arr_in h.1 c 0 rfl).trans ((A_eq m c 0).trans (V_main_arg0 m c)), (Pipeline.RDat.FramePost.arr_in h.1 c 1 rfl).trans ((A_eq m c 1).trans (V_main_arg1 m c)), (Pipeline.RDat.FramePost.arr_in h.1 c 2 rfl).trans ((A_eq m c 2).trans (V_main_arg2 m c)), (Pipeline.RDat.FramePost.arr_in h.1 c 3 rfl).trans ((A_eq m c 3).trans (V_main_arg3 m c)), (Pipeline.RDat.FramePost.arr_in h.1 c 4 rfl).trans ((A_eq m c 4).trans (V_main_arg4 m c)), (Pipeline.RDat.FramePost.arr_in h.1 c 5 rfl).trans ((A_eq m c 5).trans (V_main_arg5 m c)), (Pipeline.RDat.FramePost.arr_in h.1 c 6 rfl).trans ((A_eq m c 6).trans (V_main_arg6 m c)), (Pipeline.RDat.FramePost.arr_in h.1 c 7 rfl).trans ((A_eq m c 7).trans (V_main_arg7 m c)), (Pipeline.RDat.FramePost.arr_in h.1 c 8 rfl).trans ((A_eq m c 8).trans (V_main_arg8 m c)), (Pipeline.RDat.FramePost.arr_in h.1 c 9 rfl).trans ((A_eq m c 9).trans (V_main_arg9 m c)), (Pipeline.RDat.FramePost.arr_in h.1 c 10 rfl).trans ((A_eq m c 10).trans (V_main_arg10 m c)), (Pipeline.RDat.FramePost.arr_in h.1 c 11 rfl).trans ((A_eq m c 11).trans (V_main_arg11 m c)), (Pipeline.RDat.FramePost.arr_in h.1 c 12 rfl).trans ((A_eq m c 12).trans (V_main_arg12 m c)), (Pipeline.RDat.FramePost.arr_in h.1 c 13 rfl).trans ((A_eq m c 13).trans (V_main_arg13 m c)), (Pipeline.RDat.FramePost.arr_in h.1 c 14 rfl).trans ((A_eq m c 14).trans (V_main_arg14 m c)), (Pipeline.RDat.FramePost.arr_in h.1 c 15 rfl).trans ((A_eq m c 15).trans (V_main_arg15 m c)), (Pipeline.RDat.FramePost.arr_in h.1 c 16 rfl).trans ((A_eq m c 16).trans (V_main_arg16 m c)), (Pipeline.RDat.FramePost.arr_in h.1 c 17 rfl).trans ((A_eq m c 17).trans (V_main_arg17 m c))⟩, h.2⟩) (run_all m ρ)

end Cert.MixerIdeal

end
-- ==== Proof.Mixer.RefKept.lean ====
/- The mixer's reference leaves its arguments unchanged: no stretch of @main writes an argument buffer. -/
module

public import proofs.«01_k».proof.Proof.Gen.MixerRefIdeal.Run

@[expose] public section

set_option maxRecDepth 16384

noncomputable section

namespace Cert.MixerRefIdeal.Kept

open Idealize.ShloMosaic Idealize.ShloMosaic.TcCoe Idealize.ShloMosaic.StableHlo
open Cert.MixerRefIdeal Cert.MixerRefIdeal.Gen Cert.MixerRefIdeal.Value

variable {F : FTy → Type} [FloatOps F]

/-- What `hostOps0_17` writes, in order. -/
abbrev W17 : List (Ref sig .tc) := [main_v172, main_v173, main_v174, main_v175, main_v176, main_v177, main_v178, main_cst_12, main_v179, main_v180, main_v181, main_v182, main_v183, main_v184, main_v185, main_v186, main_v187, main_v188, main_v189, main_v190, main_v191, main_v192, main_v193, main_v194, main_v195, main_v196, main_v197, main_cst_13, main_v198, main_v199, main_v200, main_v201, main_v202, main_v203, main_v204, main_v205, main_v206, main_v207, main_v208, main_v209, main_v210, main_v211, main_cst_14, main_v212, main_v213, main_cst_15, main_v214, main_v215, main_cst_16, main_v216, main_v217, main_v218, main_v219, main_v220, main_v221, main_v222, main_v223, main_v224, main_v225, main_v226, main_cst_17, main_v227, main_v228, main_cst_18, main_v229, main_v230, main_v231, main_v232, main_v233, main_v234, main_v235, main_v236, main_v237, main_v238, main_v239, main_v240, main_v241, main_v242, main_v243, main_v244, main_v245, main_v246]
theorem W17_writes : (hostOps0_17 : List (HloOp τ sig (Elt F))).Forall fun op => op.writes ⊆ (W17.map (Proc.devRef (τ := τ) .tc)).toFinset :=
  StableHlo.forall_writes_sub_of_map rfl

/-- What `hostOps0_18` writes, in order. -/
abbrev W18 : List (Ref sig .tc) := [main_call18_v0, main_call18_v1, main_call18_cst, main_call18_v2, main_call18_v3, main_call18_cst_0, main_call18_v4, main_call18_v5, main_v247]
theorem W18_writes : (hostOps0_18 : List (HloOp τ sig (Elt F))).Forall fun op => op.writes ⊆ (W18.map (Proc.devRef (τ := τ) .tc)).toFinset :=
  StableHlo.forall_writes_sub_of_map rfl

/-- What `hostOps0_19` writes, in order. -/
abbrev W19 : List (Ref sig .tc) := [main_v248, main_v249, main_v250, main_v251, main_cst_19, main_v252, main_v253, main_cst_20, main_v254, main_v255, main_cst_21, main_v256, main_v257, main_v258, main_v259, main_v260, main_v261, main_v262, main_v263, main_v264, main_v265, main_v266, main_v267, main_v268, main_cst_22, main_v269, main_v270, main_cst_23, main_v271, main_v272, main_v273, main_v274, main_v275, main_cst_24, main_v276, main_v277, main_cst_25, main_v278, main_v279, main_v280, main_v281, main_v282, main_v283, main_v284, main_v285]
theorem W19_writes : (hostOps0_19 : List (HloOp τ sig (Elt F))).Forall fun op => op.writes ⊆ (W19.map (Proc.devRef (τ := τ) .tc)).toFinset :=
  StableHlo.forall_writes_sub_of_map rfl

/-- Every reference the program writes. -/
abbrev written : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ condOps_W ++ while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W ++ while0Ops0_11_W ++ W17 ++ W18 ++ W19

theorem kept_pre {b : Ref sig .tc} (hb : b ∉ written) (V : Valuation τ sig (Elt F)) :
    afterL preI V (Proc.devRef .tc b) = V (Proc.devRef .tc b) := by
  simp only [written, List.mem_append, not_or] at hb
  obtain ⟨⟨⟨⟨⟨⟨⟨⟨⟨⟨⟨⟨⟨⟨⟨⟨⟨⟨⟨⟨⟨⟨⟨⟨⟨⟨⟨⟨⟨⟨⟨⟨g0, g1⟩, g2⟩, g3⟩, g4⟩, g5⟩, g6⟩, g7⟩, g8⟩, g9⟩, g10⟩, g11⟩, g12⟩, g13⟩, g14⟩, g15⟩, g16⟩, g17⟩, g18⟩, g19⟩, g20⟩, g21⟩, g22⟩, g23⟩, g24⟩, g25⟩, g26⟩, g27⟩, g28⟩, g29⟩, g30⟩, g31⟩, g32⟩ := hb
  simp only [afterL_cons, afterL_nil]
  rw [after_of_writes_sub hostOps0_16 _ hostOps0_16_writes g16]
  rw [after_of_writes_sub hostOps0_15 _ hostOps0_15_writes g15]
  rw [after_of_writes_sub hostOps0_14 _ hostOps0_14_writes g14]
  rw [after_of_writes_sub hostOps0_13 _ hostOps0_13_writes g13]
  rw [after_of_writes_sub hostOps0_12 _ hostOps0_12_writes g12]
  rw [after_of_writes_sub hostOps0_11 _ hostOps0_11_writes g11]
  rw [after_of_writes_sub hostOps0_10 _ hostOps0_10_writes g10]
  rw [after_of_writes_sub hostOps0_9 _ hostOps0_9_writes g9]
  rw [after_of_writes_sub hostOps0_8 _ hostOps0_8_writes g8]
  rw [after_of_writes_sub hostOps0_7 _ hostOps0_7_writes g7]
  rw [after_of_writes_sub hostOps0_6 _ hostOps0_6_writes g6]
  rw [after_of_writes_sub hostOps0_5 _ hostOps0_5_writes g5]
  rw [after_of_writes_sub hostOps0_4 _ hostOps0_4_writes g4]
  rw [after_of_writes_sub hostOps0_3 _ hostOps0_3_writes g3]
  rw [after_of_writes_sub hostOps0_2 _ hostOps0_2_writes g2]
  rw [after_of_writes_sub hostOps0_1 _ hostOps0_1_writes g1]
  rw [after_of_writes_sub hostOps0 _ hostOps0_writes g0]

theorem kept_body {b : Ref sig .tc} (hb : b ∉ written) (V : Valuation τ sig (Elt F)) :
    afterL bodyI V (Proc.devRef .tc b) = V (Proc.devRef .tc b) := by
  simp only [written, List.mem_append, not_or] at hb
  obtain ⟨⟨⟨⟨⟨⟨⟨⟨⟨⟨⟨⟨⟨⟨⟨⟨⟨⟨⟨⟨⟨⟨⟨⟨⟨⟨⟨⟨⟨⟨⟨⟨g0, g1⟩, g2⟩, g3⟩, g4⟩, g5⟩, g6⟩, g7⟩, g8⟩, g9⟩, g10⟩, g11⟩, g12⟩, g13⟩, g14⟩, g15⟩, g16⟩, g17⟩, g18⟩, g19⟩, g20⟩, g21⟩, g22⟩, g23⟩, g24⟩, g25⟩, g26⟩, g27⟩, g28⟩, g29⟩, g30⟩, g31⟩, g32⟩ := hb
  simp only [afterL_cons, afterL_nil]
  rw [after_of_writes_sub while0Ops0_11 _ while0Ops0_11_writes g29]
  rw [after_of_writes_sub while0Ops0_10 _ while0Ops0_10_writes g28]
  rw [after_of_writes_sub while0Ops0_9 _ while0Ops0_9_writes g27]
  rw [after_of_writes_sub while0Ops0_8 _ while0Ops0_8_writes g26]
  rw [after_of_writes_sub while0Ops0_7 _ while0Ops0_7_writes g25]
  rw [after_of_writes_sub while0Ops0_6 _ while0Ops0_6_writes g24]
  rw [after_of_writes_sub while0Ops0_5 _ while0Ops0_5_writes g23]
  rw [after_of_writes_sub while0Ops0_4 _ while0Ops0_4_writes g22]
  rw [after_of_writes_sub while0Ops0_3 _ while0Ops0_3_writes g21]
  rw [after_of_writes_sub while0Ops0_2 _ while0Ops0_2_writes g20]
  rw [after_of_writes_sub while0Ops0_1 _ while0Ops0_1_writes g19]
  rw [after_of_writes_sub while0Ops0 _ while0Ops0_writes g18]

theorem kept_post {b : Ref sig .tc} (hb : b ∉ written) (V : Valuation τ sig (Elt F)) :
    afterL postI V (Proc.devRef .tc b) = V (Proc.devRef .tc b) := by
  simp only [written, List.mem_append, not_or] at hb
  obtain ⟨⟨⟨⟨⟨⟨⟨⟨⟨⟨⟨⟨⟨⟨⟨⟨⟨⟨⟨⟨⟨⟨⟨⟨⟨⟨⟨⟨⟨⟨⟨⟨g0, g1⟩, g2⟩, g3⟩, g4⟩, g5⟩, g6⟩, g7⟩, g8⟩, g9⟩, g10⟩, g11⟩, g12⟩, g13⟩, g14⟩, g15⟩, g16⟩, g17⟩, g18⟩, g19⟩, g20⟩, g21⟩, g22⟩, g23⟩, g24⟩, g25⟩, g26⟩, g27⟩, g28⟩, g29⟩, g30⟩, g31⟩, g32⟩ := hb
  simp only [afterL_cons, afterL_nil]
  rw [after_of_writes_sub hostOps0_19 _ W19_writes g32]
  rw [after_of_writes_sub hostOps0_18 _ W18_writes g31]
  rw [after_of_writes_sub hostOps0_17 _ W17_writes g30]

theorem kept_cond {b : Ref sig .tc} (hb : b ∉ written) (V : Valuation τ sig (Elt F)) :
    after condOps V (Proc.devRef .tc b) = V (Proc.devRef .tc b) := by
  simp only [written, List.mem_append, not_or] at hb
  obtain ⟨⟨⟨⟨⟨⟨⟨⟨⟨⟨⟨⟨⟨⟨⟨⟨⟨⟨⟨⟨⟨⟨⟨⟨⟨⟨⟨⟨⟨⟨⟨⟨g0, g1⟩, g2⟩, g3⟩, g4⟩, g5⟩, g6⟩, g7⟩, g8⟩, g9⟩, g10⟩, g11⟩, g12⟩, g13⟩, g14⟩, g15⟩, g16⟩, g17⟩, g18⟩, g19⟩, g20⟩, g21⟩, g22⟩, g23⟩, g24⟩, g25⟩, g26⟩, g27⟩, g28⟩, g29⟩, g30⟩, g31⟩, g32⟩ := hb
  rw [after_of_writes_sub condOps _ condOps_writes g17]

theorem kept_trips {b : Ref sig .tc} (hb : b ∉ written) (V : Dev nD → Valuation τ sig (Elt F)) (k : ℕ) (c : Dev nD) :
    atTrip condOps bodyI V k c (Proc.devRef .tc b) = V c (Proc.devRef .tc b) := by
  induction k with
  | zero => rfl
  | succ k ih => rw [atTrip_succ, kept_body hb, kept_cond hb, ih]

/-- A reference the program never writes ends as it began. -/
theorem kept {b : Ref sig .tc} (hb : b ∉ written) (n : ℕ) (m : (ℓ : Loc nD τ sig) → Buf (Elt F) ℓ) (c : Dev nD) :
    finalContents condOps preI bodyI postI n m c (Proc.devRef .tc b) = m ((c.tc : Thread nD τ).loc b) := by
  show afterL postI (after condOps (atTrip condOps bodyI (entryContents preI m) n c)) (Proc.devRef .tc b) = _
  rw [kept_post hb, kept_cond hb, kept_trips hb]
  exact kept_pre hb _

end Cert.MixerRefIdeal.Kept

end

end
-- ==== Proof.Mixer.Claim.lean ====
/- The mixer's runs: the kernel on hardware floats, the kernel on ideal values and the reference each end with their
   arguments as they were and no semaphore signalled. -/
module

public import proofs.«01_k».proof.Defs
public import proofs.«01_k».proof.Proof.Mixer.Launch
public import proofs.«01_k».proof.Proof.MixerBits.Launch
public import proofs.«01_k».proof.Proof.Mixer.RefKept

@[expose] public section

set_option maxRecDepth 16384

noncomputable section

namespace Cert.MixerRun

open Idealize.ShloMosaic Idealize.ShloMosaic.TcCoe

theorem frame_bits [Cert.Mixer.Facts] : Cert.quiescent_Mixer := fun m g _ => Cert.Mixer.frame_run (F := Bits) m g

theorem frame_ideal [Cert.MixerIdeal.Facts] : Cert.quiescent_MixerIdeal := fun m g _ => Cert.MixerIdeal.frame_run (F := Ideal) m g

section Reference

open Cert.MixerRefIdeal Cert.MixerRefIdeal.Value Cert.MixerRefIdeal.Kept

theorem frame_ref : Cert.quiescent_MixerRefIdeal := fun m g _ =>
  (θ_run Cert.MixerRefIdeal.defs _ _).mono (fun r h => ⟨fun c => by
    have keep : ∀ b : Ref sig .tc, (Proc.devRef .tc b : DevRef τ sig).isScoped = false → b ∉ written →
        r.2.mem ((c.tc : Thread nD τ).loc b) = m ((c.tc : Thread nD τ).loc b) := fun b hb hw => (h c b hb).trans (kept hw 16 m c)
    refine ⟨?_, ?_, ?_, ?_, ?_, ?_, ?_, ?_, ?_, ?_, ?_, ?_, ?_, ?_, ?_, ?_, ?_, ?_⟩ <;>
      exact keep _ rfl (by decide +kernel), sem_eq_zero_of_no_sems (by decide) r.2⟩)
    (run_fold (F := Ideal) m g)

end Reference

end Cert.MixerRun

end

end
-- ==== Proof.Init.Math.lean ====
module
public import proofs.«01_k».proof.Proof.Common.Rows
@[expose] public section
set_option maxRecDepth 16384
noncomputable section
namespace Cert.Init
open Idealize.ShloMosaic

/-! What the meta tokens leave behind, read at an index: one padded chunk of which the last 16 rows are real. -/

/-- The soft cap at 15. -/
def cap (x : EReal) : EReal := Ideal.ofBits .f32 0x41700000#32 * Ideal.tanh (Ideal.div x (Ideal.ofBits .f32 0x41700000#32))

/-- The logarithm of one plus the exponential. -/
def splus (x : EReal) : EReal :=
  max x 0 + Ideal.log1p (Ideal.exp (0 - (FloatOps.absf (F := Ideal) (φ := .f32) x : EReal)))

/-- The running sum. -/
def csum (f : Fin 128 → EReal) (r : Fin 128) : EReal := ∑ k : Fin 128, if k.1 ≤ r.1 then f k else 0

/-- The largest of a row. -/
def top (f : Fin 128 → EReal) : EReal := Finset.univ.fold max (Ideal.ofBits .f32 0xFF800000#32) f

section Gates
variable (p : Fin 128 → Fin 128 → EReal)

/-- The input gate of a head, in logarithms: nothing before the real rows. -/
def ilog (h : Fin 4) (r : Fin 128) : EReal := if 112 ≤ r.1 then cap (p r ⟨h, by omega⟩) else Ideal.ofBits .f32 0xFF800000#32

/-- The forget gate of a head, in logarithms. -/
def flog (h : Fin 4) (r : Fin 128) : EReal := if 112 ≤ r.1 then 0 - splus (0 - cap (p r ⟨4 + h, by omega⟩)) else 0

/-- The step of a state head. -/
def step (i : Fin 16) (r : Fin 128) : EReal := if 112 ≤ r.1 then splus (p r ⟨8 + i, by omega⟩) else 0

/-- The decay from a row to the chunk's end, times the input gate, in logarithms. -/
def wend (h : Fin 4) (r : Fin 128) : EReal := csum (flog p h) 127 - csum (flog p h) r + ilog p h r

/-- The row's weight, scaled by the largest. -/
def wgt (h : Fin 4) (r : Fin 128) : EReal := Ideal.exp (wend p h r - top (wend p h))

/-- The scale the chunk leaves. -/
def mnew (h : Fin 4) : EReal := max (csum (flog p h) 127) (top (wend p h))

/-- The scale of what is added. -/
def gain (h : Fin 4) : EReal := Ideal.exp (top (wend p h) - mnew p h)

/-- The matrix memory. -/
def mem (b : Fin 128 → Fin 8192 → EReal) (h : Fin 4) (k : Fin 128) (v : Fin 256) : EReal :=
  gain p h * ∑ r, b r ⟨512 + 128 * h + k, by omega⟩ * (b r ⟨1024 + 256 * h + v, by omega⟩ * wgt p h r)

/-- The normaliser. -/
def nrm (b : Fin 128 → Fin 8192 → EReal) (h : Fin 4) (k : Fin 128) : EReal :=
  gain p h * ∑ r, b r ⟨512 + 128 * h + k, by omega⟩ * wgt p h r

/-- The running decay of a state head, in logarithms. -/
def dec (al : Fin 128 → EReal) (i : Fin 16) (r : Fin 128) : EReal :=
  csum (fun k => step p i k * (0 - Ideal.exp (al ⟨8 + i, by omega⟩))) r

/-- The weight of a row in a state head's state. -/
def endw (al : Fin 128 → EReal) (i : Fin 16) (r : Fin 128) : EReal :=
  Ideal.exp (dec p al i 127 - dec p al i r) * step p i r
end Gates

section Conv
variable (b : Fin 128 → Fin 8192 → EReal) (w : Fin 8 → Fin 2048 → EReal) (o : Fin 2048 → EReal)

/-- The convolution's input: nothing before the real rows. -/
def xin (r : Fin 128) (l : Fin 2048) : EReal := if 112 ≤ r.1 then b r ⟨4096 + l, by omega⟩ else 0

/-- The input some rows before. -/
def back (s : ℕ) (r : Fin 128) (l : Fin 2048) : EReal := if h : s ≤ r.1 then xin b ⟨r - s, by omega⟩ l else 0

/-- The convolution of four taps. -/
def conv (r : Fin 128) (l : Fin 2048) : EReal :=
  o l + xin b r l * w 3 l + back b 1 r l * w 2 l + back b 2 r l * w 1 l + back b 3 r l * w 0 l

/-- The convolution times its logistic. -/
def act (r : Fin 128) (l : Fin 2048) : EReal := conv b w o r l * Ideal.logistic (conv b w o r l)
end Conv

/-- The state of a group. -/
def state (p : Fin 128 → Fin 128 → EReal) (al : Fin 128 → EReal) (a : Fin 128 → Fin 2048 → EReal) (g : Fin 4) (n : Fin 128) (c : Fin 256) : EReal :=
  ∑ r, a r ⟨1024 + 128 * g + n, by omega⟩ * (a r ⟨256 * g + c, by omega⟩ * endw p al ⟨4 * g + c / 64, by omega⟩ r)

/-- A comparison of small numbers, as words, is theirs. -/
theorem cmp_slt (n k : ℕ) (hn : n < 2 ^ 31) (hk : k < 2 ^ 31) :
    IntOp.cmpi .slt (BitVec.ofNat 32 n) (BitVec.ofNat 32 k) = BitVec.ofBool (decide (n < k)) := by
  have e : (BitVec.ofNat 32 n).slt (BitVec.ofNat 32 k) = decide (n < k) := by
    rw [BitVec.slt_eq_decide, BitVec.toInt_ofNat', BitVec.toInt_ofNat', Int.bmod_eq_of_le (by omega) (by omega), Int.bmod_eq_of_le (by omega) (by omega)]
    simp
  unfold IntOp.cmpi
  simp only [e]

theorem cmp_sle (n k : ℕ) (hn : n < 2 ^ 31) (hk : k < 2 ^ 31) :
    IntOp.cmpi .sle (BitVec.ofNat 32 n) (BitVec.ofNat 32 k) = BitVec.ofBool (decide (n ≤ k)) := by
  have e : (BitVec.ofNat 32 n).sle (BitVec.ofNat 32 k) = decide (n ≤ k) := by
    rw [BitVec.sle_eq_decide, BitVec.toInt_ofNat', BitVec.toInt_ofNat', Int.bmod_eq_of_le (by omega) (by omega), Int.bmod_eq_of_le (by omega) (by omega)]
    simp
  unfold IntOp.cmpi
  simp only [e]

theorem cmp_sge (n k : ℕ) (hn : n < 2 ^ 31) (hk : k < 2 ^ 31) :
    IntOp.cmpi .sge (BitVec.ofNat 32 n) (BitVec.ofNat 32 k) = BitVec.ofBool (decide (k ≤ n)) := cmp_sle k n hk hn

theorem sel_bool {α : Type} (q : Prop) [Decidable q] (a b : α) : Scalar.select (BitVec.ofBool (decide q)) a b = if q then a else b := by
  unfold Scalar.select
  by_cases h : q <;> simp [h]

/-- A choice by a comparison of small numbers is a choice. -/
theorem sel_slt {α : Type} (n k : ℕ) (hn : n < 2 ^ 31) (hk : k < 2 ^ 31) (a b : α) :
    Scalar.select (IntOp.cmpi .slt (BitVec.ofNat 32 n) (BitVec.ofNat 32 k)) a b = if n < k then a else b := by
  rw [cmp_slt n k hn hk, sel_bool]

theorem sel_and {α : Type} (n a c : ℕ) (hn : n < 2 ^ 31) (ha : a < 2 ^ 31) (hc : c < 2 ^ 31) (x y : α) :
    Scalar.select (IntOp.andi (IntOp.cmpi .sge (BitVec.ofNat 32 n) (BitVec.ofNat 32 a)) (IntOp.cmpi .slt (BitVec.ofNat 32 n) (BitVec.ofNat 32 c))) x y
      = if a ≤ n ∧ n < c then x else y := by
  rw [cmp_sge n a hn ha, cmp_slt n c hn hc]
  unfold IntOp.andi Scalar.select
  by_cases h1 : a ≤ n <;> by_cases h2 : n < c <;> simp [h1, h2]

/-- A block of rows turned by a few, the first rows replaced by nothing. -/
abbrev tap (b : Fin 128 → Fin 8192 → EReal) (s : ℕ) (r : Fin 128) (k : Fin 8192) : EReal :=
    (if h : r.1 < 8 then
        Scalar.select (IntOp.cmpi .slt (BitVec.ofNat 32 r.1) (BitVec.ofNat 32 s)) 0
          (Scalar.select (IntOp.cmpi .sge (BitVec.ofNat 32 ((r.1 + 128 - s) % 128)) 112#32) (b ⟨(r.1 + 128 - s) % 128, Nat.mod_lt _ (by decide)⟩ k) 0)
      else Scalar.select (IntOp.cmpi .sge (BitVec.ofNat 32 ((8 + (r.1 - 8) + 128 - s) % 128)) 112#32) (b ⟨(8 + (r.1 - 8) + 128 - s) % 128, Nat.mod_lt _ (by decide)⟩ k) 0)

/-- That is the block moved down. -/
theorem turned (b : Fin 128 → Fin 8192 → EReal) (s : ℕ) (h1 : 1 ≤ s) (h3 : s ≤ 3) (r : Fin 128) (k : Fin 8192) :
    tap b s r k
      = if h : s ≤ r.1 then (if 112 ≤ r.1 - s then b ⟨r - s, by omega⟩ k else 0) else 0 := by
  have hr := r.2
  unfold tap
  by_cases hs : s ≤ r.1
  · have e1 : (r.1 + 128 - s) % 128 = r.1 - s := by omega
    rw [dif_pos hs]
    by_cases h8 : r.1 < 8
    · rw [dif_pos h8, sel_slt _ _ (by omega) (by omega), if_neg (by omega), cmp_sge _ 112 (by omega) (by omega), sel_bool, if_neg (by omega), if_neg (by omega)]
    · have e2 : (8 + (r.1 - 8) + 128 - s) % 128 = r.1 - s := by omega
      rw [dif_neg h8, cmp_sge _ 112 (by omega) (by omega), sel_bool]
      simp only [e2]
  · rw [dif_neg hs, dif_pos (by omega), sel_slt _ _ (by omega) (by omega), if_pos (by omega)]

/-- The kernel's convolution of a block of rows times its logistic, from its taps. -/
theorem conv_form (b : Fin 128 → Fin 8192 → EReal) (w : Fin 8 → Fin 2048 → EReal) (o : Fin 2048 → EReal) (r : Fin 128) (kb : Fin 8192) (kw k : Fin 2048)
    (x1 x2 x3 : EReal) (h1 : x1 = tap b 1 r kb)
    (h2 : x2 = tap b 2 r kb)
    (h3 : x3 = tap b 3 r kb)
    (hb : kb.1 = 4096 + k.1) (hw : kw.1 = k.1) :
    (o kw + Scalar.select (IntOp.cmpi .sge (BitVec.ofNat 32 r.1) 112#32) (b r kb * w 3 kw) 0 + x1 * w 2 kw + x2 * w 1 kw + x3 * w 0 kw)
      * Ideal.logistic (o kw + Scalar.select (IntOp.cmpi .sge (BitVec.ofNat 32 r.1) 112#32) (b r kb * w 3 kw) 0 + x1 * w 2 kw + x2 * w 1 kw + x3 * w 0 kw)
      = act b w o r k := by
  obtain rfl : kw = k := Fin.ext hw
  obtain ⟨v, hv⟩ := kb
  obtain rfl : v = 4096 + kw.1 := hb
  have h0 : Scalar.select (IntOp.cmpi .sge (BitVec.ofNat 32 r.1) 112#32) (b r ⟨4096 + kw.1, hv⟩ * w 3 kw) 0 = xin b r kw * w 3 kw := by
    have hr := r.2
    rw [cmp_sge _ 112 (by omega) (by omega), sel_bool, xin, ite_mul, zero_mul]
  rw [h0, h1.trans (turned b 1 (by omega) (by omega) r _), h2.trans (turned b 2 (by omega) (by omega) r _), h3.trans (turned b 3 (by omega) (by omega) r _)]
  rfl

/-- Four weights chosen by the block of columns a column lies in. -/
theorem nest (p : Fin 128 → Fin 128 → EReal) (al : Fin 128 → EReal) (g : Fin 4) (v : Fin 256) (r : Fin 128) (A0 A1 A2 A3 : EReal)
    (h0 : A0 = endw p al ⟨4 * g + 0, by omega⟩ r) (h1 : A1 = endw p al ⟨4 * g + 1, by omega⟩ r)
    (h2 : A2 = endw p al ⟨4 * g + 2, by omega⟩ r) (h3 : A3 = endw p al ⟨4 * g + 3, by omega⟩ r) :
    Scalar.select (IntOp.andi (IntOp.cmpi .sge (BitVec.ofNat 32 v.1) 192#32) (IntOp.cmpi .slt (BitVec.ofNat 32 v.1) 256#32)) A3
      (Scalar.select (IntOp.andi (IntOp.cmpi .sge (BitVec.ofNat 32 v.1) 128#32) (IntOp.cmpi .slt (BitVec.ofNat 32 v.1) 192#32)) A2
        (Scalar.select (IntOp.andi (IntOp.cmpi .sge (BitVec.ofNat 32 v.1) 64#32) (IntOp.cmpi .slt (BitVec.ofNat 32 v.1) 128#32)) A1
          (Scalar.select (IntOp.andi (IntOp.cmpi .sge (BitVec.ofNat 32 v.1) 0#32) (IntOp.cmpi .slt (BitVec.ofNat 32 v.1) 64#32)) A0 0)))
      = endw p al ⟨4 * g + v / 64, by omega⟩ r := by
  have hv := v.2
  rw [sel_and v.1 192 256 (by omega) (by omega) (by omega), sel_and v.1 128 192 (by omega) (by omega) (by omega),
    sel_and v.1 64 128 (by omega) (by omega) (by omega), sel_and v.1 0 64 (by omega) (by omega) (by omega)]
  have e (i : ℕ) (hi : i < 4) (h : v.1 / 64 = i) : endw p al ⟨4 * g + i, by omega⟩ r = endw p al ⟨4 * g + v / 64, by omega⟩ r :=
    congrArg (fun i => endw p al i r) (Fin.ext (by dsimp only; omega))
  split_ifs
  · exact h3.trans (e 3 (by omega) (by omega))
  · exact h2.trans (e 2 (by omega) (by omega))
  · exact h1.trans (e 1 (by omega) (by omega))
  · exact h0.trans (e 0 (by omega) (by omega))
  · omega

/-- A group's state from its factors. -/
theorem group_sum (p : Fin 128 → Fin 128 → EReal) (al : Fin 128 → EReal) (a : Fin 128 → Fin 2048 → EReal) (g : Fin 4) (n : Fin 128) (c : Fin 256)
    (B X W : Fin 128 → EReal) (hB : ∀ r, B r = a r ⟨1024 + 128 * g + n, by omega⟩) (hX : ∀ r, X r = a r ⟨256 * g + c, by omega⟩)
    (hW : ∀ r, W r = endw p al ⟨4 * g + c / 64, by omega⟩ r) : (∑ r, B r * (X r * W r)) = state p al a g n c :=
  Finset.sum_congr rfl fun r _ => by rw [hB, hX, hW]

/-- One or nothing, times a value. -/
theorem bit_mul (q : Prop) [Decidable q] (x : EReal) :
    (FloatOps.sitofp (F := Ideal) .f32 (BitVec.setWidth 32 (BitVec.ofBool (decide q))) : EReal) * x = if q then x else 0 := by
  by_cases h : q
  · simp [h, FloatOps.sitofp]
  · simp [h, FloatOps.sitofp]

theorem bit_mul' (q : Prop) [Decidable q] (x : EReal) :
    x * (FloatOps.uitofp (F := Ideal) .f32 (BitVec.ofBool (decide q)) : EReal) = if q then x else 0 := by
  by_cases h : q
  · simp [h, FloatOps.uitofp]
  · simp [h, FloatOps.uitofp]

/-- A fold of additions from nothing is a sum. -/
theorem foldl_add {N : ℕ} (f : Fin N → EReal) : (List.finRange N).foldl (fun r n => r + f n) 0 = ∑ n, f n := by
  rw [← List.sum_ofFn, List.sum_eq_foldl, ← List.map_id (List.ofFn f), List.ofFn_eq_map, List.map_map, List.foldl_map]
  rfl

/-- A sum over a window that ends at a row is the running sum there. -/
theorem window_sum (f : Fin 128 → EReal) (j : Fin 128) :
    (∑ w : Fin 128, if h : 127 ≤ j.1 + w.1 ∧ j.1 + w.1 - 127 < 128 then f ⟨j + w - 127, h.2⟩ else 0) = csum f j := by
  unfold csum
  refine Finset.sum_bij_ne_zero (fun w _ hw => ⟨j.1 + w.1 - 127, by have := w.2; have := j.2; omega⟩) (fun _ _ _ => Finset.mem_univ _) ?_ ?_ ?_
  · intro a _ ha b _ hb e
    have h1 : 127 ≤ j.1 + a.1 := by by_contra h; exact ha (dif_neg (by omega))
    have h2 : 127 ≤ j.1 + b.1 := by by_contra h; exact hb (dif_neg (by omega))
    have e' := congrArg Fin.val e
    simp only at e'
    exact Fin.ext (by omega)
  · intro k _ hk
    have h1 : k.1 ≤ j.1 := by by_contra h; exact hk (if_neg h)
    have h2 : 127 ≤ j.1 + (k.1 + 127 - j.1) ∧ j.1 + (k.1 + 127 - j.1) - 127 < 128 := by have := k.2; have := j.2; omega
    have e : (⟨j.1 + (k.1 + 127 - j.1) - 127, h2.2⟩ : Fin 128) = k := Fin.ext (by show j.1 + (k.1 + 127 - j.1) - 127 = k.1; omega)
    refine ⟨⟨k.1 + 127 - j.1, by have := k.2; have := j.2; omega⟩, Finset.mem_univ _, ?_, e⟩
    rw [dif_pos h2, e]
    rw [if_pos h1] at hk
    exact hk
  · intro a _ ha
    have h1 : 127 ≤ j.1 + a.1 := by by_contra h; exact ha (dif_neg (by omega))
    have h2 : j.1 + a.1 - 127 < 128 := by have := a.2; have := j.2; omega
    rw [dif_pos ⟨h1, h2⟩, if_pos (by show j.1 + a.1 - 127 ≤ j.1; have := a.2; omega)]

/-- The host's sum over a window, from nothing, is a sum. -/
theorem window_apply {s t u : Shape} {φ : FTy} (window strides lo hi : Fin s.rank → ℕ) (x : FVec Ideal s φ) (init : FVec Ideal u φ)
    (h : s.ReduceWindows window strides lo hi t) (hu : 0 < u.numel) (h0 : init (Shape.Idx.first hu) = (0 : EReal)) (j : t.Idx) :
    Host.reduceWindowAdd window strides lo hi x init h hu j
      = ∑ w : (⟨s.rank, window⟩ : Shape).Idx,
          if hin : ∀ a, lo a ≤ (j (a.cast h.1.symm)).val * strides a + (w a).val
              ∧ (j (a.cast h.1.symm)).val * strides a + (w a).val - lo a < s.size a then
            (x fun a => ⟨(j (a.cast h.1.symm)).val * strides a + (w a).val - lo a, (hin a).2⟩ : EReal)
          else 0 := by
  rw [← Equiv.sum_comp (⟨s.rank, window⟩ : Shape).rowMajor.symm, ← foldl_add]
  show Host.reduceWindow (fun a b : EReal => a + b) window strides lo hi x (fun _ : u.Idx => init (Shape.Idx.first hu)) h hu j = _
  unfold Host.reduceWindow
  simp only [h0]

/-- The host's running sum along the second axis. -/
theorem cumsum_cols {u : Shape} (x : FVec Ideal ⟨2, ![4, 128]⟩ .f32) (init : FVec Ideal u .f32)
    (h : (⟨2, ![4, 128]⟩ : Shape).ReduceWindows ![1, 128] ![1, 1] ![0, 127] ![0, 0] ⟨2, ![4, 128]⟩) (hu : 0 < u.numel)
    (h0 : init (Shape.Idx.first hu) = (0 : EReal)) (a : Fin 4) (r : Fin 128) :
    Host.reduceWindowAdd ![1, 128] ![1, 1] ![0, 127] ![0, 0] x init h hu (ix2 a r) = csum (fun k => x (ix2 a k)) r := by
  rw [window_apply _ _ _ _ x init h hu h0]
  refine (sum_idx2 (n0 := 1) (n1 := 128) _).trans ?_
  rw [Fin.sum_univ_one, ← window_sum]
  refine Finset.sum_congr rfl fun w _ => ?_
  have e : (∀ b : Fin 2, (![0, 127] : Fin 2 → ℕ) b ≤ ((ix2 a r : (⟨2, ![4, 128]⟩ : Shape).Idx) b).val * (![1, 1] : Fin 2 → ℕ) b + ((ix2 0 w : (⟨2, ![1, 128]⟩ : Shape).Idx) b).val
      ∧ ((ix2 a r : (⟨2, ![4, 128]⟩ : Shape).Idx) b).val * (![1, 1] : Fin 2 → ℕ) b + ((ix2 0 w : (⟨2, ![1, 128]⟩ : Shape).Idx) b).val - (![0, 127] : Fin 2 → ℕ) b < (![4, 128] : Fin 2 → ℕ) b)
      ↔ 127 ≤ r.1 + w.1 ∧ r.1 + w.1 - 127 < 128 := by
    rw [Fin.forall_fin_two]
    show (0 ≤ a.1 * 1 + 0 ∧ a.1 * 1 + 0 - 0 < 4) ∧ (127 ≤ r.1 * 1 + w.1 ∧ r.1 * 1 + w.1 - 127 < 128) ↔ _
    have := a.2
    omega
  by_cases hq : 127 ≤ r.1 + w.1 ∧ r.1 + w.1 - 127 < 128
  · rw [dif_pos hq]
    refine (dif_pos (e.2 hq)).trans (congrArg x (funext fun b => Fin.ext ?_))
    match b with
    | ⟨0, _⟩ => show a.1 * 1 + 0 - 0 = a.1; omega
    | ⟨1, _⟩ => show r.1 * 1 + w.1 - 127 = r.1 + w.1 - 127; omega
  · rw [dif_neg hq]
    exact dif_neg fun h' => hq (e.1 h')

/-- The host's running sum along the first axis. -/
theorem cumsum_rows {u : Shape} (x : FVec Ideal ⟨3, ![128, 4, 4]⟩ .f32) (init : FVec Ideal u .f32)
    (h : (⟨3, ![128, 4, 4]⟩ : Shape).ReduceWindows ![128, 1, 1] ![1, 1, 1] ![127, 0, 0] ![0, 0, 0] ⟨3, ![128, 4, 4]⟩) (hu : 0 < u.numel)
    (h0 : init (Shape.Idx.first hu) = (0 : EReal)) (r : Fin 128) (a c : Fin 4) :
    Host.reduceWindowAdd ![128, 1, 1] ![1, 1, 1] ![127, 0, 0] ![0, 0, 0] x init h hu (ix3 r a c) = csum (fun k => x (ix3 k a c)) r := by
  rw [window_apply _ _ _ _ x init h hu h0]
  refine (sum_idx3 (n0 := 128) (n1 := 1) (n2 := 1) _).trans ?_
  simp only [Fin.sum_univ_one]
  rw [← window_sum]
  refine Finset.sum_congr rfl fun w _ => ?_
  have e : (∀ b : Fin 3, (![127, 0, 0] : Fin 3 → ℕ) b ≤ ((ix3 r a c : (⟨3, ![128, 4, 4]⟩ : Shape).Idx) b).val * (![1, 1, 1] : Fin 3 → ℕ) b + ((ix3 w 0 0 : (⟨3, ![128, 1, 1]⟩ : Shape).Idx) b).val
      ∧ ((ix3 r a c : (⟨3, ![128, 4, 4]⟩ : Shape).Idx) b).val * (![1, 1, 1] : Fin 3 → ℕ) b + ((ix3 w 0 0 : (⟨3, ![128, 1, 1]⟩ : Shape).Idx) b).val - (![127, 0, 0] : Fin 3 → ℕ) b < (![128, 4, 4] : Fin 3 → ℕ) b)
      ↔ 127 ≤ r.1 + w.1 ∧ r.1 + w.1 - 127 < 128 := by
    rw [Fin.forall_fin_succ, Fin.forall_fin_two]
    show (127 ≤ r.1 * 1 + w.1 ∧ r.1 * 1 + w.1 - 127 < 128) ∧ (0 ≤ a.1 * 1 + 0 ∧ a.1 * 1 + 0 - 0 < 4) ∧ (0 ≤ c.1 * 1 + 0 ∧ c.1 * 1 + 0 - 0 < 4) ↔ _
    have := a.2
    have := c.2
    omega
  by_cases hq : 127 ≤ r.1 + w.1 ∧ r.1 + w.1 - 127 < 128
  · rw [dif_pos hq]
    refine (dif_pos (e.2 hq)).trans (congrArg x (funext fun b => Fin.ext ?_))
    match b with
    | ⟨0, _⟩ => show r.1 * 1 + w.1 - 127 = r.1 + w.1 - 127; omega
    | ⟨1, _⟩ => show a.1 * 1 + 0 - 0 = a.1; omega
    | ⟨2, _⟩ => show c.1 * 1 + 0 - 0 = c.1; omega
  · rw [dif_neg hq]
    exact dif_neg fun h' => hq (e.1 h')

end Cert.Init
end
end
-- ==== Proof.Init.Gates.lean ====
module
public import proofs.«01_k».proof.Proof.Gen.InitIdeal.Value
public import proofs.«01_k».proof.Proof.Init.Math
@[expose] public section
set_option maxRecDepth 16384
noncomputable section
namespace Cert.InitIdeal.Blocks
open Cert.InitIdeal Cert.InitIdeal.Gen Idealize.ShloMosaic Idealize.ShloMosaic.TcCoe Idealize.SL.Sem
open Idealize.ShloMosaic.Pipeline (Dat)
open Cert.Rows Cert.Init
variable (m : (ℓ : Loc nD τ sig) → Buf (Elt Ideal) ℓ)

/-- The gates' projections. -/
def gk (c : Dev nD) (r l : Fin 128) : EReal := m ((c : Thread nD τ).loc main_arg1) (ix2 r l)

/-- The gates' offsets. -/
def hk (c : Dev nD) (l : Fin 128) : EReal := m ((c : Thread nD τ).loc main_arg2) (ix2 0 l)

/-- The gates' pre-activations. -/
def pk (c : Dev nD) (r l : Fin 128) : EReal := gk m c r l + hk m c l

/-- The decays. -/
def ak (c : Dev nD) (l : Fin 128) : EReal := m ((c : Thread nD τ).loc main_arg3) (ix2 0 l)

/-- The wide projection. -/
def bk (c : Dev nD) (r : Fin 128) (l : Fin 8192) : EReal := m ((c : Thread nD τ).loc main_arg0) (ix2 r l)

/-- The taps. -/
def wk (c : Dev nD) (r : Fin 8) (l : Fin 2048) : EReal := m ((c : Thread nD τ).loc main_arg7) (ix2 r l)

/-- The convolution's offset. -/
def ok (c : Dev nD) (l : Fin 2048) : EReal := m ((c : Thread nD τ).loc main_arg8) (ix2 0 l)

theorem idx : ∀ t : Fin cfg0.N, win0_0.index t = ![0, 0] ∧ win0_1.index t = ![0, 0] ∧ win0_2.index t = ![0, 0] ∧ win0_3.index t = ![0, 0]
    ∧ win0_7.index t = ![0, 0] ∧ win0_8.index t = ![0, 0] ∧ win0_9.index t = ![0, 0, 0] ∧ win0_10.index t = ![0, 0] ∧ win0_11.index t = ![0, 0]
    ∧ win0_12.index t = ![0, 0, 0] ∧ win0_13.index t = ![0, 0] :=
  (by decide +kernel : ∀ t : Fin grid0.N, win0_0.index t = ![0, 0] ∧ win0_1.index t = ![0, 0] ∧ win0_2.index t = ![0, 0] ∧ win0_3.index t = ![0, 0]
    ∧ win0_7.index t = ![0, 0] ∧ win0_8.index t = ![0, 0] ∧ win0_9.index t = ![0, 0, 0] ∧ win0_10.index t = ![0, 0] ∧ win0_11.index t = ![0, 0]
    ∧ win0_12.index t = ![0, 0, 0] ∧ win0_13.index t = ![0, 0])

theorem iblk0 (c : Dev nD) (t : Fin cfg0.N) (r : Fin 128) (l : Fin 8192) : iblk m c 0 t (ix2 r l) = bk m c r l := by
  have e : ((View.whole main_arg0).slice (win0_0.rect t)).emb (ix2 r l) = ix2 r l := by blk_ext [idx t]
  blk_simp [iblk, V]
  rw [e]
  rfl

theorem iblk1 (c : Dev nD) (t : Fin cfg0.N) (r l : Fin 128) : iblk m c 1 t (ix2 r l) = gk m c r l := by
  have e : ((View.whole main_arg1).slice (win0_1.rect t)).emb (ix2 r l) = ix2 r l := by blk_ext [idx t]
  blk_simp [iblk, V]
  rw [e]
  rfl

theorem iblk2 (c : Dev nD) (t : Fin cfg0.N) (l : Fin 128) : iblk m c 2 t (ix2 0 l) = hk m c l := by
  have e : ((View.whole main_arg2).slice (win0_2.rect t)).emb (ix2 0 l) = ix2 0 l := by blk_ext [idx t]
  blk_simp [iblk, V]
  rw [e]
  rfl

theorem iblk3 (c : Dev nD) (t : Fin cfg0.N) (l : Fin 128) : iblk m c 3 t (ix2 0 l) = ak m c l := by
  have e : ((View.whole main_arg3).slice (win0_3.rect t)).emb (ix2 0 l) = ix2 0 l := by blk_ext [idx t]
  blk_simp [iblk, V]
  rw [e]
  rfl

theorem iblk7 (c : Dev nD) (t : Fin cfg0.N) (r : Fin 8) (l : Fin 2048) : iblk m c 7 t (ix2 r l) = wk m c r l := by
  have e : ((View.whole main_arg7).slice (win0_7.rect t)).emb (ix2 r l) = ix2 r l := by blk_ext [idx t]
  blk_simp [iblk, V]
  rw [e]
  rfl

theorem iblk8 (c : Dev nD) (t : Fin cfg0.N) (l : Fin 2048) : iblk m c 8 t (ix2 0 l) = ok m c l := by
  have e : ((View.whole main_arg8).slice (win0_8.rect t)).emb (ix2 0 l) = ix2 0 l := by blk_ext [idx t]
  blk_simp [iblk, V]
  rw [e]
  rfl

/-- The gates' activations, lane by lane. -/
abbrev acts (c : Dev nD) (t : Fin cfg0.N) : FVec Ideal S128x128 .f32 :=
  k0_pay12 (iota Kind.tc S128x128 32 [1] iota_S128x128_d1_w32) (k0_pay8 (iblk m c 1 t) (iblk m c 2 t)) (k0_pay9 (iblk m c 1 t) (iblk m c 2 t))
    (k0_pay10 (iblk m c 1 t) (iblk m c 2 t)) (k0_pay11 (iblk m c 1 t) (iblk m c 2 t))

/-- Their running sums. -/
abbrev cums (c : Dev nD) (t : Fin cfg0.N) : FVec Ideal S128x128 .f32 :=
  k0_pay16 (iota Kind.tc S128x128 32 [1] iota_S128x128_d1_w32) k0_pay7 (acts m c t) (k0_pay13 (iblk m c 3 t))
    (k0_pay14 (iota Kind.tc S128x128 32 [1] iota_S128x128_d1_w32)) (k0_pay15 (iota Kind.tc S128x128 32 [1] iota_S128x128_d1_w32))

theorem acts_at (c : Dev nD) (t : Fin cfg0.N) (r l : Fin 128) :
    acts m c t (ix2 r l) = if l.1 < 4 then (if 112 ≤ r.1 then cap (pk m c r l) else Ideal.ofBits .f32 0xFF800000#32)
      else if l.1 < 8 then (if 112 ≤ r.1 then 0 - splus (0 - cap (pk m c r l)) else 0)
      else if l.1 < 24 then (if 112 ≤ r.1 then splus (pk m c r l) else 0) else 0 := by
  have h1 := r.2
  have h2 := l.2
  pointwise [k0_pay12, k0_pay11, k0_pay10, k0_pay9, k0_pay8]
  rw [sel_slt _ 4 (by omega) (by omega), sel_slt _ 8 (by omega) (by omega), sel_slt _ 24 (by omega) (by omega), cmp_sge _ 112 (by omega) (by omega)]
  simp only [sel_bool, iblk1 m c t, iblk2 m c t]
  rfl

theorem acts_ilog (c : Dev nD) (t : Fin cfg0.N) (h : Fin 4) (l : Fin 128) (e : l.1 = h.1) (r : Fin 128) :
    acts m c t (ix2 r l) = ilog (pk m c) h r := by
  have hb : h.1 < 128 := by have := h.2; clear e; omega
  obtain rfl : l = ⟨h.1, hb⟩ := Fin.ext e
  rw [acts_at, if_pos (show h.1 < 4 from h.2)]
  rfl

theorem acts_step (c : Dev nD) (t : Fin cfg0.N) (i : Fin 16) (l : Fin 128) (e : l.1 = 8 + i.1) (r : Fin 128) :
    acts m c t (ix2 r l) = step (pk m c) i r := by
  have hb : 8 + i.1 < 128 := by have := i.2; clear e; omega
  obtain rfl : l = ⟨8 + i.1, hb⟩ := Fin.ext e
  rw [acts_at, if_neg (show ¬(8 + i.1 < 4) by omega), if_neg (show ¬(8 + i.1 < 8) by omega), if_pos (show 8 + i.1 < 24 by omega)]
  rfl

theorem cums_at (c : Dev nD) (t : Fin cfg0.N) (r l : Fin 128) (h4 : 4 ≤ l.1) :
    cums m c t (ix2 r l) = csum (fun k => if l.1 < 8 then acts m c t (ix2 k l)
      else if l.1 < 24 then acts m c t (ix2 k l) * (0 - Ideal.exp (ak m c l)) else 0) r := by
  have h1 := r.2
  have h2 := l.2
  have e : cums m c t (ix2 r l) = ∑ x : Fin 128,
      Scalar.select (IntOp.cmpi .slt (BitVec.ofNat 32 l.1) 4#32) 0
        ((FloatOps.sitofp (F := Ideal) FTy.f32 (BitVec.setWidth 32 (IntOp.cmpi .sle (BitVec.ofNat 32 x.1) (BitVec.ofNat 32 r.1))) : EReal) *
          Scalar.select (IntOp.cmpi .slt (BitVec.ofNat 32 l.1) 8#32) (acts m c t (ix2 x l))
            (Scalar.select (IntOp.cmpi .slt (BitVec.ofNat 32 l.1) 24#32) (acts m c t (ix2 x l) * (0 - Ideal.exp (iblk m c 3 t (ix2 0 l)))) 0)) := by
    pointwise [k0_pay16, k0_pay7, k0_pay13, k0_pay14, k0_pay15]
  rw [e]
  refine Finset.sum_congr rfl fun x _ => ?_
  have h3 := x.2
  rw [sel_slt _ 4 (by omega) (by omega), sel_slt _ 8 (by omega) (by omega), sel_slt _ 24 (by omega) (by omega), cmp_sle _ _ (by omega) (by omega),
    bit_mul, if_neg (by omega), iblk3 m c t]

theorem cums_flog (c : Dev nD) (t : Fin cfg0.N) (h : Fin 4) (l : Fin 128) (e : l.1 = 4 + h.1) (r : Fin 128) :
    cums m c t (ix2 r l) = csum (flog (pk m c) h) r := by
  have hb : 4 + h.1 < 128 := by have := h.2; clear e; omega
  obtain rfl : l = ⟨4 + h.1, hb⟩ := Fin.ext e
  rw [cums_at _ _ _ _ _ (Nat.le_add_right _ _)]
  refine congrArg (csum · r) (funext fun k => ?_)
  rw [if_pos (show 4 + h.1 < 8 by omega), acts_at, if_neg (show ¬(4 + h.1 < 4) by omega), if_pos (show 4 + h.1 < 8 by omega)]
  rfl

theorem cums_dec (c : Dev nD) (t : Fin cfg0.N) (i : Fin 16) (l : Fin 128) (e : l.1 = 8 + i.1) (r : Fin 128) :
    cums m c t (ix2 r l) = dec (pk m c) (ak m c) i r := by
  have hb : 8 + i.1 < 128 := by have := i.2; clear e; omega
  obtain rfl : l = ⟨8 + i.1, hb⟩ := Fin.ext e
  rw [cums_at _ _ _ _ _ (show 4 ≤ 8 + i.1 by omega)]
  refine congrArg (csum · r) (funext fun k => ?_)
  rw [if_neg (show ¬(8 + i.1 < 8) by omega), if_pos (show 8 + i.1 < 24 by omega), acts_step m c t i _ rfl]

theorem cums_lane (c : Dev nD) (t : Fin cfg0.N) (l : Fin 128) (h8 : 8 ≤ l.1) (h24 : l.1 < 24) (r : Fin 128) :
    cums m c t (ix2 r l) = dec (pk m c) (ak m c) ⟨l.1 - 8, by omega⟩ r :=
  cums_dec m c t ⟨l.1 - 8, by omega⟩ l (by show l.1 = 8 + (l.1 - 8); omega) r

theorem acts_lane (c : Dev nD) (t : Fin cfg0.N) (l : Fin 128) (h8 : 8 ≤ l.1) (h24 : l.1 < 24) (r : Fin 128) :
    acts m c t (ix2 r l) = step (pk m c) ⟨l.1 - 8, by omega⟩ r :=
  acts_step m c t ⟨l.1 - 8, by omega⟩ l (by show l.1 = 8 + (l.1 - 8); omega) r

end Cert.InitIdeal.Blocks
end
end
-- ==== Proof.Init.Heads.lean ====
module
public import proofs.«01_k».proof.Proof.Init.Gates
@[expose] public section
set_option maxRecDepth 16384
noncomputable section
namespace Cert.InitIdeal.Blocks
open Cert.InitIdeal Cert.InitIdeal.Gen Idealize.ShloMosaic Idealize.ShloMosaic.TcCoe Idealize.SL.Sem
open Idealize.ShloMosaic.Pipeline (Dat)
open Cert.Rows Cert.Init
variable (m : (ℓ : Loc nD τ sig) → Buf (Elt Ideal) ℓ)

/-- What stores that are all parts of `G` leave over a buffer that already held `G` off them is `G`. -/
theorem canon_over {s : Shape} {e : EltTy} (G : s.Idx → Elt Ideal e) (B : List (View.Piece (Elt Ideal) s e)) (y : s.Idx) :
    ∀ L : List (View.Piece (Elt Ideal) s e), View.PiecesOf G L → ((∀ p ∈ L, y ∉ p.1.set) → View.canon B y = G y) → View.canon (L ++ B) y = G y
  | [], _, hB => hB fun _ hp => absurd hp List.not_mem_nil
  | ⟨r, w⟩ :: L, h, hB => by
    by_cases hy : y ∈ r.set
    · obtain ⟨x, rfl⟩ : ∃ x, r.emb x = y := r.exists_idx_of_mem hy
      exact (View.canon_cons_emb r w (L ++ B) x).trans (h.1 x)
    · refine (View.canon_cons_of_not_mem (⟨r, w⟩ : View.Piece (Elt Ideal) s e) (L ++ B) hy).trans (canon_over G B y L h.2 fun hL => hB fun p hp => ?_)
      rcases List.mem_cons.mp hp with rfl | hp
      · exact hy
      · exact hL p hp

/-- A row is in its own store. -/
theorem row_mem (h : ℕ) (inb) (y : S8x128.Idx) (e : (y 0).1 = h) : y ∈ (Rect.unit (s := S8x128) ![h, 0] ![1, 128] inb).set := by
  have : (Rect.unit (s := S8x128) ![h, 0] ![1, 128] inb).emb (ix2 0 (y 1)) = y := by
    funext a
    apply Fin.ext
    rw [ValueKit.rect_emb_unit_val]
    match a with
    | ⟨0, _⟩ => exact e.symm
    | ⟨1, _⟩ => exact Nat.zero_add _
  rw [← this]
  exact (Rect.unit (s := S8x128) ![h, 0] ![1, 128] inb).idx_mem _

/-- Where a row's store lands. -/
theorem row_emb (h : ℕ) (hh : h < 8) (inb) (l : Fin 128) :
    (Rect.unit (s := S8x128) ![h, 0] ![1, 128] inb).emb (ix2 0 l) = ix2 ⟨h, hh⟩ l := by
  funext a
  apply Fin.ext
  rw [ValueKit.rect_emb_unit_val]
  match a with
  | ⟨0, _⟩ => exact Nat.add_zero _
  | ⟨1, _⟩ => exact Nat.zero_add _

/-- Four rows over a buffer of zeros. -/
def rows (f : Fin 4 → Fin 128 → EReal) (y : S8x128.Idx) : EReal := if h : (y 0).1 < 4 then f ⟨(y 0).1, h⟩ (y 1) else 0

theorem canon_rows (f : Fin 4 → Fin 128 → EReal) (p0 p1 p2 p3 : S1x128.Idx → Elt Ideal .f32) (z : S8x128.Idx → Elt Ideal .f32) (i0 i1 i2 i3 iz)
    (h0 : ∀ l, p0 (ix2 0 l) = f 0 l) (h1 : ∀ l, p1 (ix2 0 l) = f 1 l) (h2 : ∀ l, p2 (ix2 0 l) = f 2 l) (h3 : ∀ l, p3 (ix2 0 l) = f 3 l)
    (hz : ∀ r l, z (ix2 r l) = (0 : EReal)) (y : S8x128.Idx) :
    View.canon (Val := Elt Ideal) (e := .f32) [⟨Rect.unit (s := S8x128) ![3, 0] ![1, 128] i3, p3⟩, ⟨Rect.unit (s := S8x128) ![2, 0] ![1, 128] i2, p2⟩,
      ⟨Rect.unit (s := S8x128) ![1, 0] ![1, 128] i1, p1⟩, ⟨Rect.unit (s := S8x128) ![0, 0] ![1, 128] i0, p0⟩,
      ⟨Rect.unit (s := S8x128) ![0, 0] ![8, 128] iz, z⟩] y = rows f y := by
  refine canon_over (s := S8x128) (e := .f32) (rows f) [⟨Rect.unit (s := S8x128) ![0, 0] ![8, 128] iz, z⟩] y
    [⟨Rect.unit (s := S8x128) ![3, 0] ![1, 128] i3, p3⟩, ⟨Rect.unit (s := S8x128) ![2, 0] ![1, 128] i2, p2⟩,
      ⟨Rect.unit (s := S8x128) ![1, 0] ![1, 128] i1, p1⟩, ⟨Rect.unit (s := S8x128) ![0, 0] ![1, 128] i0, p0⟩] ?_ ?_
  · refine ⟨fun x => ?_, fun x => ?_, fun x => ?_, fun x => ?_, trivial⟩ <;> idx_vars x <;> fin_cases x0
    · exact (h3 x1).trans (congrArg (rows f) (row_emb 3 (by decide) i3 x1).symm)
    · exact (h2 x1).trans (congrArg (rows f) (row_emb 2 (by decide) i2 x1).symm)
    · exact (h1 x1).trans (congrArg (rows f) (row_emb 1 (by decide) i1 x1).symm)
    · exact (h0 x1).trans (congrArg (rows f) (row_emb 0 (by decide) i0 x1).symm)
  · intro hn
    simp only [List.forall_mem_cons] at hn
    obtain ⟨n3, n2, n1, n0, -⟩ := hn
    have hy : ¬ (y 0).1 < 4 := fun h => by
      have : (y 0).1 = 0 ∨ (y 0).1 = 1 ∨ (y 0).1 = 2 ∨ (y 0).1 = 3 := by omega
      rcases this with e | e | e | e
      · exact n0 (row_mem 0 i0 y e)
      · exact n1 (row_mem 1 i1 y e)
      · exact n2 (row_mem 2 i2 y e)
      · exact n3 (row_mem 3 i3 y e)
    refine ((congrFun (View.canon_cons_unit_lit (S := S8x128) iz z [] (by decide)) y).trans ?_).trans (dif_neg hy).symm
    idx_vars y
    exact hz y0 y1

set_option maxHeartbeats 4000000 in
/-- The scales the call leaves. -/
theorem arr11 (c : Dev nD) (G : S8x128.Idx → Elt Ideal .f32) (hG : ∀ y, rows (fun h _ => mnew (pk m c) h) y = G y) :
    (dats m 0 c).arrAt 11 cfg0.N = G := by
  refine (dats m 0 c).arrAt_eq_of_covers 11 _ (by decide +kernel) fun t hf y => ?_
  blk_simp
  rw [after0_11]
  unfold outsAt0
  frame_open
  simp (disch := decide) only [↓ View.readCov_skip, ↓ View.readCov_cons_toLoadRect, ↓ View.readCov_fill]
  frame_out
  have hb := iblk0 m c t
  have hc0 := cums_flog m c t 0 4 rfl
  have hc1 := cums_flog m c t 1 5 rfl
  have hc2 := cums_flog m c t 2 6 rfl
  have hc3 := cums_flog m c t 3 7 rfl
  have ha0 := acts_ilog m c t 0 0 rfl
  have ha1 := acts_ilog m c t 1 1 rfl
  have ha2 := acts_ilog m c t 2 2 rfl
  have ha3 := acts_ilog m c t 3 3 rfl
  refine ((canon_rows (fun h _ => mnew (pk m c) h) _ _ _ _ _ _ _ _ _ _ (fun l => ?_) (fun l => ?_) (fun l => ?_) (fun l => ?_) (fun r l => ?_) y).trans (hG y)).trans (congrArg G ?_)
  rotate_right
  · blk_ext [idx t]
  rotate_right
  · pointwise [k0_pay4]
  all_goals
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay2, k0_pay3, k0_pay4]
    simp only [hc0, hc1, hc2, hc3, ha0, ha1, ha2, ha3]
    rfl

set_option maxHeartbeats 4000000 in
/-- The normalisers the call leaves. -/
theorem arr10 (c : Dev nD) (G : S8x128.Idx → Elt Ideal .f32) (hG : ∀ y, rows (nrm (pk m c) (bk m c)) y = G y) :
    (dats m 0 c).arrAt 10 cfg0.N = G := by
  refine (dats m 0 c).arrAt_eq_of_covers 10 _ (by decide +kernel) fun t hf y => ?_
  blk_simp
  rw [after0_10]
  unfold outsAt0
  frame_open
  simp (disch := decide) only [↓ View.readCov_skip, ↓ View.readCov_cons_toLoadRect, ↓ View.readCov_fill]
  frame_out
  have hb := iblk0 m c t
  have hc0 := cums_flog m c t 0 4 rfl
  have hc1 := cums_flog m c t 1 5 rfl
  have hc2 := cums_flog m c t 2 6 rfl
  have hc3 := cums_flog m c t 3 7 rfl
  have ha0 := acts_ilog m c t 0 0 rfl
  have ha1 := acts_ilog m c t 1 1 rfl
  have ha2 := acts_ilog m c t 2 2 rfl
  have ha3 := acts_ilog m c t 3 3 rfl
  refine ((canon_rows (nrm (pk m c) (bk m c)) _ _ _ _ _ _ _ _ _ _ (fun l => ?_) (fun l => ?_) (fun l => ?_) (fun l => ?_) (fun r l => ?_) y).trans (hG y)).trans (congrArg G ?_)
  rotate_right
  · blk_ext [idx t]
  rotate_right
  · pointwise [k0_pay3]
  all_goals
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay2, k0_pay3, k0_pay4]
    simp only [hc0, hc1, hc2, hc3, ha0, ha1, ha2, ha3, hb, mul_zero, zero_add]
    rfl

/-- Where a head's store lands. -/
theorem head_emb (h : ℕ) (hh : h < 4) (inb) (k : Fin 128) (v : Fin 256) :
    (Rect.unit (s := S4x128x256) ![h, 0, 0] ![1, 128, 256] inb).emb (ix3 0 k v) = ix3 ⟨h, hh⟩ k v := by
  funext a
  apply Fin.ext
  rw [ValueKit.rect_emb_unit_val]
  match a with
  | ⟨0, _⟩ => exact Nat.add_zero _
  | ⟨1, _⟩ => exact Nat.zero_add _
  | ⟨2, _⟩ => exact Nat.zero_add _

theorem canon_heads (f : Fin 4 → Fin 128 → Fin 256 → EReal) (p0 p1 p2 p3 : S1x128x256.Idx → Elt Ideal .f32)
    (B : List (View.Piece (Elt Ideal) S4x128x256 .f32)) (i0 i1 i2 i3)
    (h0 : ∀ k v, p0 (ix3 0 k v) = f 0 k v) (h1 : ∀ k v, p1 (ix3 0 k v) = f 1 k v) (h2 : ∀ k v, p2 (ix3 0 k v) = f 2 k v)
    (h3 : ∀ k v, p3 (ix3 0 k v) = f 3 k v) (y : S4x128x256.Idx) :
    View.canon (Val := Elt Ideal) (e := .f32) (⟨Rect.unit (s := S4x128x256) ![3, 0, 0] ![1, 128, 256] i3, p3⟩ ::
      ⟨Rect.unit (s := S4x128x256) ![2, 0, 0] ![1, 128, 256] i2, p2⟩ :: ⟨Rect.unit (s := S4x128x256) ![1, 0, 0] ![1, 128, 256] i1, p1⟩ ::
      ⟨Rect.unit (s := S4x128x256) ![0, 0, 0] ![1, 128, 256] i0, p0⟩ :: B) y = f (y 0) (y 1) (y 2) := by
  refine View.canon_append_of_piecesOf (s := S4x128x256) (e := .f32) (fun y => f (y 0) (y 1) (y 2)) B
    [⟨Rect.unit (s := S4x128x256) ![3, 0, 0] ![1, 128, 256] i3, p3⟩, ⟨Rect.unit (s := S4x128x256) ![2, 0, 0] ![1, 128, 256] i2, p2⟩,
      ⟨Rect.unit (s := S4x128x256) ![1, 0, 0] ![1, 128, 256] i1, p1⟩, ⟨Rect.unit (s := S4x128x256) ![0, 0, 0] ![1, 128, 256] i0, p0⟩] ?_ y ?_
  · refine ⟨fun x => ?_, fun x => ?_, fun x => ?_, fun x => ?_, trivial⟩ <;> idx_vars x <;> fin_cases x0
    · exact (h3 x1 x2).trans (congrArg (fun y : S4x128x256.Idx => f (y 0) (y 1) (y 2)) (head_emb 3 (by decide) i3 x1 x2).symm)
    · exact (h2 x1 x2).trans (congrArg (fun y : S4x128x256.Idx => f (y 0) (y 1) (y 2)) (head_emb 2 (by decide) i2 x1 x2).symm)
    · exact (h1 x1 x2).trans (congrArg (fun y : S4x128x256.Idx => f (y 0) (y 1) (y 2)) (head_emb 1 (by decide) i1 x1 x2).symm)
    · exact (h0 x1 x2).trans (congrArg (fun y : S4x128x256.Idx => f (y 0) (y 1) (y 2)) (head_emb 0 (by decide) i0 x1 x2).symm)
  · refine View.cover_of_tiledL (s := S4x128x256) _ ![1, 128, 256] ?_ y
    sl_kernel_rfl

set_option maxHeartbeats 4000000 in
/-- The matrix memories the call leaves. -/
theorem arr9 (c : Dev nD) (G : S4x128x256.Idx → Elt Ideal .f32) (hG : ∀ y : S4x128x256.Idx, mem (pk m c) (bk m c) (y 0) (y 1) (y 2) = G y) :
    (dats m 0 c).arrAt 9 cfg0.N = G := by
  refine (dats m 0 c).arrAt_eq_of_covers 9 _ (by decide +kernel) fun t hf y => ?_
  blk_simp
  rw [after0_9]
  unfold outsAt0
  frame_open
  simp (disch := decide) only [↓ View.readCov_skip, ↓ View.readCov_cons_toLoadRect, ↓ View.readCov_fill]
  frame_out
  have hb := iblk0 m c t
  have hc0 := cums_flog m c t 0 4 rfl
  have hc1 := cums_flog m c t 1 5 rfl
  have hc2 := cums_flog m c t 2 6 rfl
  have hc3 := cums_flog m c t 3 7 rfl
  have ha0 := acts_ilog m c t 0 0 rfl
  have ha1 := acts_ilog m c t 1 1 rfl
  have ha2 := acts_ilog m c t 2 2 rfl
  have ha3 := acts_ilog m c t 3 3 rfl
  refine ((canon_heads (mem (pk m c) (bk m c)) _ _ _ _ _ _ _ _ _ (fun k v => ?_) (fun k v => ?_) (fun k v => ?_) (fun k v => ?_) y).trans (hG y)).trans (congrArg G ?_)
  rotate_right
  · blk_ext [idx t]
  all_goals
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay2, k0_pay3, k0_pay4]
    simp only [hc0, hc1, hc2, hc3, ha0, ha1, ha2, ha3, hb, mul_zero, zero_add]
    rfl

end Cert.InitIdeal.Blocks
end
end
-- ==== Proof.Init.Conv.lean ====
module
public import proofs.«01_k».proof.Proof.Init.Heads
@[expose] public section
set_option maxRecDepth 16384
noncomputable section
namespace Cert.InitIdeal.Blocks
open Cert.InitIdeal Cert.InitIdeal.Gen Idealize.ShloMosaic Idealize.ShloMosaic.TcCoe Idealize.SL.Sem
open Idealize.ShloMosaic.Pipeline (Dat)
open Cert.Rows Cert.Init
variable (m : (ℓ : Loc nD τ sig) → Buf (Elt Ideal) ℓ)

/-- Eight column blocks over any earlier stores. -/
theorem canon_cols (f : Fin 8 → Fin 2048 → EReal) (p0 p1 p2 p3 p4 p5 p6 p7 : S8x256.Idx → Elt Ideal .f32)
    (B : List (View.Piece (Elt Ideal) S8x2048 .f32)) (i0 i1 i2 i3 i4 i5 i6 i7)
    (h : ∀ r (l : Fin 256), (p0 (ix2 r l) = f r ⟨0 + l, by omega⟩ ∧ p1 (ix2 r l) = f r ⟨256 + l, by omega⟩ ∧ p2 (ix2 r l) = f r ⟨512 + l, by omega⟩
      ∧ p3 (ix2 r l) = f r ⟨768 + l, by omega⟩) ∧ (p4 (ix2 r l) = f r ⟨1024 + l, by omega⟩ ∧ p5 (ix2 r l) = f r ⟨1280 + l, by omega⟩
      ∧ p6 (ix2 r l) = f r ⟨1536 + l, by omega⟩ ∧ p7 (ix2 r l) = f r ⟨1792 + l, by omega⟩)) (y : S8x2048.Idx) :
    View.canon (Val := Elt Ideal) (e := .f32) (⟨Rect.unit (s := S8x2048) ![0, 1792] ![8, 256] i7, p7⟩ ::
      ⟨Rect.unit (s := S8x2048) ![0, 1536] ![8, 256] i6, p6⟩ :: ⟨Rect.unit (s := S8x2048) ![0, 1280] ![8, 256] i5, p5⟩ ::
      ⟨Rect.unit (s := S8x2048) ![0, 1024] ![8, 256] i4, p4⟩ :: ⟨Rect.unit (s := S8x2048) ![0, 768] ![8, 256] i3, p3⟩ ::
      ⟨Rect.unit (s := S8x2048) ![0, 512] ![8, 256] i2, p2⟩ :: ⟨Rect.unit (s := S8x2048) ![0, 256] ![8, 256] i1, p1⟩ ::
      ⟨Rect.unit (s := S8x2048) ![0, 0] ![8, 256] i0, p0⟩ :: B) y = f (y 0) (y 1) := by
  have e (o : ℕ) (i) (r : Fin 8) (l : Fin 256) (hl : o + l.1 < 2048) :
      (fun y : S8x2048.Idx => f (y 0) (y 1)) ((Rect.unit (s := S8x2048) ![0, o] ![8, 256] i).emb (ix2 r l)) = f r ⟨o + l, hl⟩ :=
    congrArg (fun y : S8x2048.Idx => f (y 0) (y 1)) (emb_tile (R := 8) (N := 2048) (T := 256) o i r l hl)
  refine View.canon_append_of_piecesOf (s := S8x2048) (e := .f32) (fun y => f (y 0) (y 1)) B
    [⟨Rect.unit (s := S8x2048) ![0, 1792] ![8, 256] i7, p7⟩, ⟨Rect.unit (s := S8x2048) ![0, 1536] ![8, 256] i6, p6⟩,
      ⟨Rect.unit (s := S8x2048) ![0, 1280] ![8, 256] i5, p5⟩, ⟨Rect.unit (s := S8x2048) ![0, 1024] ![8, 256] i4, p4⟩,
      ⟨Rect.unit (s := S8x2048) ![0, 768] ![8, 256] i3, p3⟩, ⟨Rect.unit (s := S8x2048) ![0, 512] ![8, 256] i2, p2⟩,
      ⟨Rect.unit (s := S8x2048) ![0, 256] ![8, 256] i1, p1⟩, ⟨Rect.unit (s := S8x2048) ![0, 0] ![8, 256] i0, p0⟩] ?_ y ?_
  · refine ⟨fun x => ?_, fun x => ?_, fun x => ?_, fun x => ?_, fun x => ?_, fun x => ?_, fun x => ?_, fun x => ?_, trivial⟩ <;> idx_vars x
    · exact (h x0 x1).2.2.2.2.trans (e 1792 i7 x0 x1 (by omega)).symm
    · exact (h x0 x1).2.2.2.1.trans (e 1536 i6 x0 x1 (by omega)).symm
    · exact (h x0 x1).2.2.1.trans (e 1280 i5 x0 x1 (by omega)).symm
    · exact (h x0 x1).2.1.trans (e 1024 i4 x0 x1 (by omega)).symm
    · exact (h x0 x1).1.2.2.2.trans (e 768 i3 x0 x1 (by omega)).symm
    · exact (h x0 x1).1.2.2.1.trans (e 512 i2 x0 x1 (by omega)).symm
    · exact (h x0 x1).1.2.1.trans (e 256 i1 x0 x1 (by omega)).symm
    · exact (h x0 x1).1.1.trans (e 0 i0 x0 x1 (by omega)).symm
  · refine View.cover_of_tiledL (s := S8x2048) _ ![8, 256] ?_ y
    sl_kernel_rfl

set_option maxHeartbeats 4000000 in
/-- The last rows of the convolution's input, which the call leaves for the next chunk. -/
theorem arr13 (c : Dev nD) (G : S8x2048.Idx → Elt Ideal .f32)
    (hG : ∀ y : S8x2048.Idx, xin (bk m c) ⟨120 + (y 0).1, by have h : (y 0).1 < 8 := (y 0).2; omega⟩ (y 1) = G y) :
    (dats m 0 c).arrAt 13 cfg0.N = G := by
  refine (dats m 0 c).arrAt_eq_of_covers 13 _ (by decide +kernel) fun t hf y => ?_
  blk_simp
  rw [after0_13]
  unfold outsAt0
  frame_open
  simp (disch := decide) only [↓ View.readCov_skip, ↓ View.readCov_cons_toLoadRect, ↓ View.readCov_fill]
  frame_out
  refine ((canon_cols (fun r l => xin (bk m c) ⟨120 + r, by omega⟩ l) _ _ _ _ _ _ _ _ _ _ _ _ _ _ _ _ _ (fun r l => ⟨⟨?_, ?_, ?_, ?_⟩, ?_, ?_, ?_, ?_⟩) y).trans (hG y)).trans
    (congrArg G ?_)
  rotate_right
  · blk_ext [idx t]
  all_goals
    have hr := r.2
    pointwise [k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay6]
    rw [cmp_sge _ 112 (by omega) (by omega), sel_bool, if_pos (by omega), iblk0 m c t]
    exact (if_pos (show 112 ≤ 120 + r.1 by omega)).symm.trans (congrArg (fun k => if 112 ≤ 120 + r.1 then bk m c ⟨120 + r.1, by omega⟩ k else 0) (Fin.ext (by first | rfl | (dsimp only; omega))))

/-- A read inside one column block of the last store is a read of what was stored. -/
theorem readCov_inside (v : View sig .tc .vmem S128x2048 .f32) (o d o' : ℕ) (e : o' = o + d) (i i' i'') (w : S128x256.Idx → Elt Ideal .f32)
    (L : List (View.Piece (Elt Ideal) S128x2048 .f32)) :
    v.readCov (⟨Rect.unit (s := S128x2048) ![0, o] ![128, 256] i, w⟩ :: L) (Rect.unit (s := S128x2048) ![0, o'] ![128, 128] i').toLoadRect
      = View.ld w (Rect.unit (s := S128x256) ![0, d] ![128, 128] i'') := by
  subst e
  rw [View.readCov_eq_canon']
  funext j
  have e1 : (Rect.unit (s := S128x2048) ![0, o + d] ![128, 128] i').toLoadRect.idx j
      = (Rect.unit (s := S128x2048) ![0, o] ![128, 256] i).emb ((Rect.unit (s := S128x256) ![0, d] ![128, 128] i'').toLoadRect.idx j) := by
    funext a
    apply Fin.ext
    match a with
    | ⟨0, _⟩ =>
      show 0 + 1 * (j 0).1 = 0 + 1 * (0 + 1 * (j 0).1)
      omega
    | ⟨1, _⟩ =>
      show o + d + 1 * (j 1).1 = o + 1 * (d + 1 * (j 1).1)
      omega
  refine (congrArg _ e1).trans (View.canon_cons_emb (Val := Elt Ideal) (Rect.unit (s := S128x2048) ![0, o] ![128, 256] i) w L _)

set_option maxHeartbeats 2000000 in
/-- The states the call leaves. -/
theorem arr12 (c : Dev nD) (G : S4x128x256.Idx → Elt Ideal .f32)
    (hG : ∀ y : S4x128x256.Idx, state (pk m c) (ak m c) (act (bk m c) (wk m c) (ok m c)) (y 0) (y 1) (y 2) = G y) :
    (dats m 0 c).arrAt 12 cfg0.N = G := by
  refine (dats m 0 c).arrAt_eq_of_covers 12 _ (by decide +kernel) fun t hf y => ?_
  blk_simp
  rw [after0_12]
  unfold outsAt0
  frame_open
  simp (disch := decide) only [↓ View.readCov_skip, ↓ View.readCov_cons_toLoadRect, ↓ View.readCov_fill]
  frame_out
  refine ((canon_heads (state (pk m c) (ak m c) (act (bk m c) (wk m c) (ok m c))) _ _ _ _ _ _ _ _ _ (fun k v => ?_) (fun k v => ?_) (fun k v => ?_) (fun k v => ?_) y).trans
    (hG y)).trans (congrArg G ?_)
  rotate_right
  · blk_ext [idx t]
  on_goal 1 => rw [readCov_inside _ 1024 0 1024 rfl _ _ (by decide)]
  on_goal 2 => rw [readCov_inside _ 1024 128 1152 rfl _ _ (by decide)]
  on_goal 3 => rw [readCov_inside _ 1280 0 1280 rfl _ _ (by decide)]
  on_goal 4 => rw [readCov_inside _ 1280 128 1408 rfl _ _ (by decide)]
  all_goals
    pointwise [k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay1, k0_pay5]
    simp (disch := decide) only [zero_mul, zero_add, cums_lane m c t, acts_lane m c t]
    refine group_sum _ _ _ _ _ _ _ _ _ (fun r => ?_) (fun r => ?_) (fun r => nest _ _ _ _ _ _ _ _ _ rfl rfl rfl rfl)
  all_goals
    have hr := r.2
    pointwise [k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay6]
    simp only [iblk0 m c t, iblk7 m c t, iblk8 m c t]
    refine conv_form (bk m c) (wk m c) (ok m c) r _ _ _ _ _ _ ?_ ?_ ?_ ?_ ?_
    · with_reducible rfl
    · with_reducible rfl
    · with_reducible rfl
    all_goals
      first
      | rfl
      | (simp only [Fin.isValue, Fin.val_zero, Fin.val_one, Fin.val_two]; omega)

end Cert.InitIdeal.Blocks
end
end
-- ==== Proof.Init.Ref.lean ====
module
public import proofs.«01_k».proof.Proof.Init.Math
public import proofs.«01_k».proof.Proof.Gen.InitRefIdeal.Run
public import Idealize.ShloMosaic.Lib.IdealHost
public import Idealize.ShloMosaic.Lib.Tactic.CleanTypes
@[expose] public section
set_option maxRecDepth 16384
noncomputable section
namespace Cert.InitRefIdeal.Rows
open Cert.InitRefIdeal Cert.InitRefIdeal.Gen Cert.InitRefIdeal.Value Idealize.ShloMosaic Idealize.ShloMosaic.TcCoe Idealize.SL.Sem
open Cert.Rows Cert.Init
section
variable {F : FTy → Type} [FloatOps F]

/-- The reference's memory. -/
def hMem (W : Valuation τ sig (Elt F)) : (Proc.devRef .tc main_v154 : DevRef τ sig).ty.Contents (Elt F) :=
  transpose S4x128x256 [0, 2, 1] (addf (mulf (broadcastInDim S4x256x128 ![0, 1, 2] bcast_S4x1x1_S4x256x128_0_1_2 (broadcastInDim S4x1x1 ![0] bcast_S4_S4x1x1_0 (res_main_v62 W))) (broadcastInDim S4x256x128 ![] bcast_S_S4x256x128 (constant S_ .f32 0x00000000#32))) (mulf (broadcastInDim S4x256x128 ![0, 1, 2] bcast_S4x1x1_S4x256x128_0_1_2 (broadcastInDim S4x1x1 ![0] bcast_S4_S4x1x1_0 (res_main_v64 W))) (Host.dotGeneral dot_S128x4x256_S128x4x128_S4x256x128_0_0_2_2_1_1 none (mulf (shapeCast _ (extractStridedSlice S128x1024 ![0, 1024] (res_main_v0 W) slices_S128x8192_S128x1024_0_1024) shapeCasts_S128x1024_S128x4x256) (broadcastInDim S128x4x256 ![0, 1, 2] bcast_S128x4x1_S128x4x256_0_1_2 (broadcastInDim S128x4x1 ![0, 1] bcast_S128x4_S128x4x1_0_1 (transpose S128x4 [1, 0] (res_main_v48 W) transposes_S4x128_S128x4_1_0)))) (res_main_v33 W)))) transposes_S4x256x128_S4x128x256_0_2_1

/-- The reference's normalisers. -/
def hNrm (W : Valuation τ sig (Elt F)) : (Proc.devRef .tc main_v155 : DevRef τ sig).ty.Contents (Elt F) :=
  pad S8x128 ![0, 0] ![4, 0] ![0, 0] (addf (mulf (broadcastInDim S4x128 ![0, 1] bcast_S4x1_S4x128_0_1 (broadcastInDim S4x1 ![0] bcast_S4_S4x1_0 (res_main_v62 W))) (broadcastInDim S4x128 ![] bcast_S_S4x128 (constant S_ .f32 0x00000000#32))) (mulf (broadcastInDim S4x128 ![0, 1] bcast_S4x1_S4x128_0_1 (broadcastInDim S4x1 ![0] bcast_S4_S4x1_0 (res_main_v64 W))) (Host.dotGeneral dot_S4x128_S128x4x128_S4x128_1_0_n_2_0_1 none (res_main_v48 W) (res_main_v33 W)))) (sitofp .f32 (constantI S_ 32 0#32)) pads_S4x128_S8x128_040_000 h_S_

/-- The reference's scales. -/
def hTop (W : Valuation τ sig (Elt F)) : (Proc.devRef .tc main_v158 : DevRef τ sig).ty.Contents (Elt F) :=
  pad S8x128 ![0, 0] ![4, 0] ![0, 0] (broadcastInDim S4x128 ![0, 1] bcast_S4x1_S4x128_0_1 (broadcastInDim S4x1 ![0] bcast_S4_S4x1_0 (res_main_v59 W))) (sitofp .f32 (constantI S_ 32 0#32)) pads_S4x128_S8x128_040_000 h_S_

/-- The reference's states. -/
def hState (W : Valuation τ sig (Elt F)) : (Proc.devRef .tc main_v160 : DevRef τ sig).ty.Contents (Elt F) :=
  shapeCast _ (transpose S4x128x4x64 [0, 3, 1, 2] (addf (mulf (broadcastInDim S4x4x64x128 ![0, 1, 2, 3] bcast_S4x4x1x1_S4x4x64x128_0_1_2_3 (broadcastInDim S4x4x1x1 ![0, 1] bcast_S4x4_S4x4x1x1_0_1 (Host.exp (shapeCast _ (extractStridedSlice S4x4x1 ![0, 0, 127] (res_main_v134 W) slices_S4x4x128_S4x4x1_0_0_127) shapeCasts_S4x4x1_S4x4)))) (broadcastInDim S4x4x64x128 ![] bcast_S_S4x4x64x128 (constant S_ .f32 0x00000000#32))) (Host.dotGeneral dot_S128x4x4x64_S128x4x128_S4x4x64x128_0_0_23_2_1_1 none (mulf (shapeCast _ (extractStridedSlice S128x1024 ![0, 0] (res_main_v116 W) slices_S128x2048_S128x1024_0_0) shapeCasts_S128x1024_S128x4x4x64) (broadcastInDim S128x4x4x64 ![0, 1, 2, 3] bcast_S128x4x4x1_S128x4x4x64_0_1_2_3 (broadcastInDim S128x4x4x1 ![0, 1, 2] bcast_S128x4x4_S128x4x4x1_0_1_2 (transpose S128x4x4 [2, 0, 1] (mulf (Host.exp (subf (broadcastInDim S4x4x128 ![0, 1, 2] bcast_S4x4x1_S4x4x128_0_1_2 (extractStridedSlice S4x4x1 ![0, 0, 127] (res_main_v134 W) slices_S4x4x128_S4x4x1_0_0_127)) (res_main_v134 W))) (transpose S4x4x128 [1, 2, 0] (res_main_v123 W) transposes_S128x4x4_S4x4x128_1_2_0)) transposes_S4x4x128_S128x4x4_2_0_1)))) (shapeCast _ (extractStridedSlice S128x512 ![0, 1024] (res_main_v116 W) slices_S128x2048_S128x512_0_1024) shapeCasts_S128x512_S128x4x128))) transposes_S4x4x64x128_S4x128x4x64_0_3_1_2) shapeCasts_S4x128x4x64_S4x128x256

/-- The reference's last rows of the convolution's input. -/
def hLast (W : Valuation τ sig (Elt F)) : (Proc.devRef .tc main_v161 : DevRef τ sig).ty.Contents (Elt F) :=
  extractStridedSlice S8x2048 ![120, 0] (res_main_v81 W) slices_S128x2048_S8x2048_120_0

end

variable (V : Valuation τ sig (Elt Ideal))

/-- The gates' projections. -/
def vg (r l : Fin 128) : EReal := V (Proc.devRef .tc main_arg1) (ix2 r l)

/-- The gates' offsets. -/
def vh (l : Fin 128) : EReal := V (Proc.devRef .tc main_arg2) (ix2 0 l)

/-- The gates' pre-activations. -/
def vp (r l : Fin 128) : EReal := vg V r l + vh V l

/-- The decays. -/
def va (l : Fin 128) : EReal := V (Proc.devRef .tc main_arg3) (ix2 0 l)

/-- The wide projection. -/
def vb (r : Fin 128) (l : Fin 8192) : EReal := V (Proc.devRef .tc main_arg0) (ix2 r l)

/-- The taps. -/
def vw (r : Fin 8) (l : Fin 2048) : EReal := V (Proc.devRef .tc main_arg7) (ix2 r l)

/-- The convolution's offset. -/
def vo (l : Fin 2048) : EReal := V (Proc.devRef .tc main_arg8) (ix2 0 l)

theorem pre_at (r l : Fin 128) : res_main_v12 V (ix2 r l) = vp V r l := by
  unfold res_main_v12
  clean_types
  pointwise [vp, vg, vh]

theorem real_at (r : Fin 128) : res_main_v19 V (ix2 r 0) = BitVec.ofBool (decide (112 ≤ r.1)) := by
  have hr := r.2
  unfold res_main_v19
  clean_types
  pointwise [vp]
  exact cmp_sge _ 112 (by omega) (by omega)

theorem flog_at (h : Fin 4) (r : Fin 128) : res_main_v37 V (ix2 h r) = csum (flog (vp V) h) r := by
  unfold res_main_v37
  clean_types
  rw [cumsum_cols _ _ _ _ (by pointwise)]
  unfold csum
  refine Finset.sum_congr rfl fun k _ => if_congr Iff.rfl ?_ rfl
  pointwise [res_main_call1_v0, res_main_call1_call0_v3, res_main_call1_call0_cst, id]
  simp only [real_at V, pre_at V, sel_bool, ne_eq, not_true_eq_false, if_false, flog, splus, cap, zero_sub]

theorem step_at (r : Fin 128) (g j : Fin 4) : res_main_v123 V (ix3 r g j) = step (vp V) ⟨4 * g + j, by omega⟩ r := by
  unfold res_main_v123
  clean_types
  pointwise [res_main_v15, res_main_call6_v3, res_main_call6_cst, id]
  simp only [real_at V, pre_at V, sel_bool, ne_eq, not_true_eq_false, if_false, step, splus, zero_sub, Nat.mul_comm 4 g.1]

theorem dec_at (g j : Fin 4) (r : Fin 128) : res_main_v134 V (ix3 g j r) = dec (vp V) (va V) ⟨4 * g + j, by omega⟩ r := by
  unfold res_main_v134
  clean_types
  pointwise
  rw [cumsum_rows _ _ _ _ (by pointwise)]
  unfold dec csum
  refine Finset.sum_congr rfl fun k _ => if_congr Iff.rfl ?_ rfl
  pointwise [va]
  simp only [step_at V, zero_sub, Nat.mul_comm 4 g.1]

theorem wend_at (h : Fin 4) (r : Fin 128) : res_main_v43 V (ix2 h r) = wend (vp V) h r := by
  unfold res_main_v43
  clean_types
  pointwise [res_main_v39, id]
  simp only [flog_at V, real_at V, pre_at V, sel_bool, wend, ilog, cap]

theorem top_at (h : Fin 4) : res_main_v44 V (ix1 h) = top (wend (vp V) h) := by
  unfold res_main_v44
  clean_types
  pointwise
  simp only [wend_at V]
  rfl

theorem mnew_at (h : Fin 4) : res_main_v59 V (ix1 h) = mnew (vp V) h := by
  pointwise [res_main_v59, res_main_v57, res_main_v39]
  simp only [flog_at V, top_at V, mnew]

theorem gain_at (h : Fin 4) : res_main_v64 V (ix1 h) = gain (vp V) h := by
  pointwise [res_main_v64]
  simp only [mnew_at V, top_at V, gain]

theorem wgt_at (h : Fin 4) (r : Fin 128) : res_main_v48 V (ix2 h r) = wgt (vp V) h r := by
  pointwise [res_main_v48]
  simp only [wend_at V, top_at V, wgt]

theorem key_at (r : Fin 128) (h : Fin 4) (k : Fin 128) : res_main_v33 V (ix3 r h k) = vb V r ⟨512 + 128 * h + k, by omega⟩ := by
  pointwise [res_main_v33, res_main_v0]
  exact congrArg (vb V r) (Fin.ext (by dsimp only; omega))

theorem xin_at (r : Fin 128) (l : Fin 2048) : res_main_v81 V (ix2 r l) = xin (vb V) r l := by
  pointwise [res_main_v81, res_main_v0]
  rw [real_at V, bit_mul']
  rfl

theorem word_zero : (FloatOps.sitofp (F := Ideal) .f32 0#32 : EReal) = 0 := by simp [FloatOps.sitofp]

theorem pad_at (r : Fin 131) (l : Fin 2048) : res_main_v82 V (ix2 r l) = if h : 3 ≤ r.1 then xin (vb V) ⟨r - 3, by omega⟩ l else 0 := by
  unfold res_main_v82
  clean_types
  pointwise
  by_cases h : 3 ≤ r.1
  · rw [dif_pos ⟨h, by omega⟩, dif_pos h]
    exact xin_at V _ l
  · rw [dif_neg (fun e => h e.1), dif_neg h]
    exact word_zero

/-- A row of the padded input is the input some rows before. -/
theorem pad_back (b : Fin 128 → Fin 8192 → EReal) (s d : ℕ) (e : s + d = 3) (r : Fin 128) (l : Fin 2048) :
    (if h : 3 ≤ s + r.1 then xin b ⟨s + r.1 - 3, by omega⟩ l else 0) = back b d r l := by
  unfold back
  by_cases h : d ≤ r.1
  · rw [dif_pos (by omega), dif_pos h]
    exact congrArg (xin b · l) (Fin.ext (by dsimp only; omega))
  · rw [dif_neg (by omega), dif_neg h]

theorem conv_at (r : Fin 128) (l : Fin 2048) : res_main_v115 V (ix2 r l) = conv (vb V) (vw V) (vo V) r l := by
  have e3 : (if h : 3 ≤ 3 + r.1 then xin (vb V) ⟨3 + r.1 - 3, by omega⟩ l else 0) = xin (vb V) r l := by
    rw [dif_pos (by omega)]
    exact congrArg (xin (vb V) · l) (Fin.ext (by dsimp only; omega))
  pointwise [res_main_v115]
  simp only [pad_at V]
  rw [pad_back (vb V) 1 2 rfl, pad_back (vb V) 2 1 rfl, e3]
  unfold conv
  show vo V l + (back (vb V) 3 r l * vw V 0 l + back (vb V) 2 r l * vw V 1 l + back (vb V) 1 r l * vw V 2 l + xin (vb V) r l * vw V 3 l) = _
  ac_rfl

theorem act_at (r : Fin 128) (l : Fin 2048) : res_main_v116 V (ix2 r l) = act (vb V) (vw V) (vo V) r l := by
  pointwise [res_main_v116]
  simp only [conv_at V]
  rfl

theorem zero_first (x y z : EReal) (h : y = z) : x * 0 + y = z := by rw [mul_zero, zero_add, h]

theorem hMem_at (h : Fin 4) (k : Fin 128) (v : Fin 256) : hMem V (ix3 h k v) = mem (vp V) (vb V) h k v := by
  unfold hMem
  clean_types
  pointwise [res_main_v0]
  simp only [gain_at V, wgt_at V, key_at V]
  refine zero_first _ _ _ (congrArg (gain (vp V) h * ·) (Finset.sum_congr rfl fun r _ => (mul_comm _ _).trans (congrArg (vb V r _ * ·)
    (congrArg (· * wgt (vp V) h r) (congrArg (vb V r) (Fin.ext (by dsimp only; omega)))))))

theorem hNrm_at (r : Fin 8) (k : Fin 128) : hNrm V (ix2 r k) = if h : r.1 < 4 then nrm (vp V) (vb V) ⟨r, h⟩ k else 0 := by
  unfold hNrm
  clean_types
  pointwise
  by_cases h : r.1 < 4
  · rw [dif_pos h, dif_pos h]
    simp only [gain_at V, wgt_at V, key_at V]
    exact zero_first _ _ _ (congrArg (gain (vp V) ⟨r, h⟩ * ·) (Finset.sum_congr rfl fun x _ => mul_comm _ _))
  · rw [dif_neg h, dif_neg h]
    exact word_zero

theorem hTop_at (r : Fin 8) (k : Fin 128) : hTop V (ix2 r k) = if h : r.1 < 4 then mnew (vp V) ⟨r, h⟩ else 0 := by
  unfold hTop
  clean_types
  pointwise
  by_cases h : r.1 < 4
  · rw [dif_pos h, dif_pos h]
    exact mnew_at V ⟨r, h⟩
  · rw [dif_neg h, dif_neg h]
    exact word_zero

theorem hState_at (g : Fin 4) (n : Fin 128) (v : Fin 256) : hState V (ix3 g n v) = state (vp V) (va V) (act (vb V) (vw V) (vo V)) g n v := by
  unfold hState
  clean_types
  pointwise
  simp only [act_at V, dec_at V, step_at V]
  refine zero_first _ _ _ (Finset.sum_congr rfl fun r _ => (mul_comm _ _).trans (congrArg₂ (· * ·)
    (congrArg (act (vb V) (vw V) (vo V) r) (Fin.ext (by dsimp only; omega))) (congrArg (· * endw (vp V) (va V) ⟨4 * g + v / 64, by omega⟩ r)
      (congrArg (act (vb V) (vw V) (vo V) r) (Fin.ext (by dsimp only; omega))))))

theorem hLast_at (r : Fin 8) (l : Fin 2048) : hLast V (ix2 r l) = xin (vb V) ⟨120 + r, by omega⟩ l := by
  unfold hLast
  clean_types
  pointwise
  exact xin_at V _ l

end Cert.InitRefIdeal.Rows
end
end
-- ==== Proof.Init.Claim.lean ====
module
public import proofs.«01_k».proof.Defs
public import proofs.«01_k».proof.Proof.Init.Conv
public import proofs.«01_k».proof.Proof.Init.Ref
public import proofs.«01_k».proof.Proof.Gen.Init.Frame
public import proofs.«01_k».proof.Proof.Gen.InitIdeal.Frame
public import Idealize.ShloMosaic.Init
@[expose] public section
set_option maxRecDepth 16384
noncomputable section
namespace Cert.InitRun
open Idealize.ShloMosaic Idealize.ShloMosaic.TcCoe Idealize.SL.Sem Idealize.ShloMosaic.StableHlo Cert.Rows Cert.Init
open Cert.InitIdeal.Blocks Cert.InitRefIdeal.Rows

section Results
variable (m : (ℓ : Loc InitIdeal.nD InitIdeal.τ InitIdeal.sig) → Buf (Elt Ideal) ℓ) (c : Dev InitIdeal.nD)
  (V : Valuation InitRefIdeal.τ InitRefIdeal.sig (Elt Ideal))

theorem mem_eq (hp : vp V = pk m c) (hb : vb V = bk m c) : (InitIdeal.Gen.dats m 0 c).arrAt 9 InitIdeal.cfg0.N = hMem V :=
  arr9 m c _ fun y => by
    idx_vars y
    exact (by rw [hMem_at V, hp, hb] : hMem V (ix3 y0 y1 y2) = mem (pk m c) (bk m c) y0 y1 y2).symm

theorem nrm_eq (hp : vp V = pk m c) (hb : vb V = bk m c) : (InitIdeal.Gen.dats m 0 c).arrAt 10 InitIdeal.cfg0.N = hNrm V :=
  arr10 m c _ fun y => by
    idx_vars y
    exact (by rw [hNrm_at V, hp, hb]; rfl : hNrm V (ix2 y0 y1) = rows (nrm (pk m c) (bk m c)) (ix2 y0 y1)).symm

theorem top_eq (hp : vp V = pk m c) : (InitIdeal.Gen.dats m 0 c).arrAt 11 InitIdeal.cfg0.N = hTop V :=
  arr11 m c _ fun y => by
    idx_vars y
    exact (by rw [hTop_at V, hp]; rfl : hTop V (ix2 y0 y1) = rows (fun h _ => mnew (pk m c) h) (ix2 y0 y1)).symm

theorem state_eq (hp : vp V = pk m c) (ha : va V = ak m c) (hb : vb V = bk m c) (hw : vw V = wk m c) (ho : vo V = ok m c) :
    (InitIdeal.Gen.dats m 0 c).arrAt 12 InitIdeal.cfg0.N = hState V :=
  arr12 m c _ fun y => by
    idx_vars y
    exact (by rw [hState_at V, hp, ha, hb, hw, ho] : hState V (ix3 y0 y1 y2) = state (pk m c) (ak m c) (act (bk m c) (wk m c) (ok m c)) y0 y1 y2).symm

theorem last_eq (hb : vb V = bk m c) : (InitIdeal.Gen.dats m 0 c).arrAt 13 InitIdeal.cfg0.N = hLast V :=
  arr13 m c _ fun y => by
    idx_vars y
    exact (by rw [hLast_at V, hb] : hLast V (ix2 y0 y1) = xin (bk m c) ⟨120 + y0, by omega⟩ y1).symm
end Results

theorem frame_ref : Cert.quiescent_InitRefIdeal (hInitRefIdeal := InitRefIdeal.Gen.facts) := fun m g _ =>
  (θ_run InitRefIdeal.defs _ _).mono (fun r h => ⟨fun c => (h c).2.2.2.2.2, sem_eq_zero_of_no_sems (by decide) r.2⟩) (InitRefIdeal.Value.run (F := Ideal) m g)

theorem algebraic : Cert.algebraic_InitIdeal_InitRefIdeal (hInitIdeal := InitIdeal.Gen.facts) (hInitRefIdeal := InitRefIdeal.Gen.facts) := by
  intro m g m' g' _ hag
  have hb (c : Dev InitIdeal.nD) : vb (launchContents m' c) = bk m c :=
    funext fun r => funext fun l => congrFun (hag c).1 (ix2 r l)
  have hp (c : Dev InitIdeal.nD) : vp (launchContents m' c) = pk m c := by
    funext r l
    have e1 : vg (launchContents m' c) r l = gk m c r l := congrFun (hag c).2.1 (ix2 r l)
    have e2 : vh (launchContents m' c) l = hk m c l := congrFun (hag c).2.2.1 (ix2 0 l)
    unfold vp pk
    rw [e1, e2]
  have ha (c : Dev InitIdeal.nD) : va (launchContents m' c) = ak m c := funext fun l => congrFun (hag c).2.2.2.1 (ix2 0 l)
  have hw (c : Dev InitIdeal.nD) : vw (launchContents m' c) = wk m c :=
    funext fun r => funext fun l => congrFun (hag c).2.2.2.2.2.2.2.1 (ix2 r l)
  have ho (c : Dev InitIdeal.nD) : vo (launchContents m' c) = ok m c := funext fun l => congrFun (hag c).2.2.2.2.2.2.2.2 (ix2 0 l)
  exact ⟨fun c => (InitIdeal.Gen.dats m 0 c).arrAt 9 InitIdeal.cfg0.N, fun c => (InitIdeal.Gen.dats m 0 c).arrAt 10 InitIdeal.cfg0.N, fun c => (InitIdeal.Gen.dats m 0 c).arrAt 11 InitIdeal.cfg0.N, fun c => (InitIdeal.Gen.dats m 0 c).arrAt 12 InitIdeal.cfg0.N, fun c => (InitIdeal.Gen.dats m 0 c).arrAt 13 InitIdeal.cfg0.N,
    InitIdeal.Value.run_blocks m g, (θ_run InitRefIdeal.defs _ _).mono (fun r h c => ⟨(h c).1.trans (mem_eq m c _ (hp c) (hb c)).symm,
    (h c).2.1.trans (nrm_eq m c _ (hp c) (hb c)).symm, (h c).2.2.1.trans (top_eq m c _ (hp c)).symm,
    (h c).2.2.2.1.trans (state_eq m c _ (hp c) (ha c) (hb c) (hw c) (ho c)).symm, (h c).2.2.2.2.1.trans (last_eq m c _ (hb c)).symm,
    (h c).2.2.2.2.2⟩) (InitRefIdeal.Value.run (F := Ideal) m' g')⟩
end Cert.InitRun
end
end
-- ==== Proof.lean ====
module

public import proofs.«01_k».proof.Defs
public import proofs.«01_k».proof.Proof.Gen.Ffn.Frame
public import proofs.«01_k».proof.Proof.Gen.FfnIdeal.Frame
public import proofs.«01_k».proof.Proof.Gen.Proj.Frame
public import proofs.«01_k».proof.Proof.Gen.ProjIdeal.Frame
public import proofs.«01_k».proof.Proof.Gen.FfnIdeal.Value
public import proofs.«01_k».proof.Proof.Gen.ProjIdeal.Value
public import proofs.«01_k».proof.Proof.Gen.FfnRefIdeal.Run
public import proofs.«01_k».proof.Proof.Gen.ProjRefIdeal.Run
public import proofs.«01_k».proof.Proof.Ffn.Claim
public import proofs.«01_k».proof.Proof.Gen.MixerRefIdeal.Run
public import proofs.«01_k».proof.Proof.Gen.Init.Frame
public import proofs.«01_k».proof.Proof.Gen.InitIdeal.Frame
public import proofs.«01_k».proof.Proof.Gen.InitIdeal.Value
public import proofs.«01_k».proof.Proof.Gen.InitRefIdeal.Run
public import proofs.«01_k».proof.Proof.Proj.Claim
public import proofs.«01_k».proof.Proof.Mixer.Claim
public import proofs.«01_k».proof.Proof.Init.Claim

@[expose] public section

noncomputable section

namespace Cert.Proof

theorem claim : Cert.Claim :=
  ⟨Cert.Ffn.Gen.facts, Cert.FfnIdeal.Gen.facts, Cert.FfnRefIdeal.Gen.facts, Cert.Proj.Gen.facts, Cert.ProjIdeal.Gen.facts, Cert.ProjRefIdeal.Gen.facts,
    Cert.Mixer.Gen.facts, Cert.MixerIdeal.Gen.facts, Cert.MixerRefIdeal.Gen.facts, Cert.Init.Gen.facts, Cert.InitIdeal.Gen.facts, Cert.InitRefIdeal.Gen.facts,
    fun m g _ => Cert.Ffn.Gen.frame m g, fun m g _ => Cert.FfnIdeal.Gen.frame m g, Cert.Ffn.frame_ref,
    fun m g _ => Cert.Proj.Gen.frame m g, fun m g _ => Cert.ProjIdeal.Gen.frame m g, Cert.Proj.frame_ref,
    Cert.MixerRun.frame_bits, Cert.MixerRun.frame_ideal, Cert.MixerRun.frame_ref, fun m g _ => Cert.Init.Gen.frame m g, fun m g _ => Cert.InitIdeal.Gen.frame m g, Cert.InitRun.frame_ref,
    trivial, Cert.Ffn.algebraic, trivial, Cert.Proj.algebraic, trivial, trivial, Cert.InitRun.algebraic⟩

end Cert.Proof

end
